-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_short_bags [hPre_sorted_short_bags : Cert.Pre_sorted_short_bags.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_short_bags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_short_bags [hPre_sorted_short_bags : Cert.Pre_sorted_short_bags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_short_bags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_short_bags [hKernelIdeal : Cert.KernelIdeal.Facts] [hPre_sorted_short_bags : Cert.Pre_sorted_short_bags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_short_bags m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_short_bags [hReferenceIdeal : Cert.ReferenceIdeal.Facts] [hPre_sorted_short_bags : Cert.Pre_sorted_short_bags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_short_bags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "mask" .f32 0xCE6E6B28#32 ⊥

def algebraic_KernelIdeal_ReferenceIdeal_pre_sorted_short_bags [hKernelIdeal : Cert.KernelIdeal.Facts] [hReferenceIdeal : Cert.ReferenceIdeal.Facts] [hPre_sorted_short_bags : Cert.Pre_sorted_short_bags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_short_bags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_sorted_short_bags : Cert.Pre_sorted_short_bags.Facts),
    quiescent_Kernel (hKernel := hKernel)
    ∧ quiescent_KernelIdeal (hKernelIdeal := hKernelIdeal)
    ∧ quiescent_KernelIdeal_pre_sorted_short_bags (hKernelIdeal := hKernelIdeal) (hPre_sorted_short_bags := hPre_sorted_short_bags)
    ∧ quiescent_ReferenceIdeal (hReferenceIdeal := hReferenceIdeal)
    ∧ quiescent_ReferenceIdeal_pre_sorted_short_bags (hReferenceIdeal := hReferenceIdeal) (hPre_sorted_short_bags := hPre_sorted_short_bags)
    ∧ quiescent_Reference (hReference := hReference)
    ∧ preserves_Kernel_KernelIdeal
    ∧ preserves_Reference_ReferenceIdeal
    ∧ algebraic_KernelIdeal_ReferenceIdeal_pre_sorted_short_bags (hKernelIdeal := hKernelIdeal) (hReferenceIdeal := hReferenceIdeal) (hPre_sorted_short_bags := hPre_sorted_short_bags)
-- ==== Pre_sorted_short_bags.lean ====
abbrev S160000x256 : Shape := ⟨2, ![160000, 256]⟩
abbrev S160000 : Shape := ⟨1, ![160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S159999 : Shape := ⟨1, ![159999]⟩
abbrev S159488 : Shape := ⟨1, ![159488]⟩

class Facts : Prop where
  bcast_S_S160000 : S_.BroadcastsInDim S160000 (![] : Fin 0 → Fin S160000.rank)
  reducesTo_S160000_S_d0 : S160000.ReducesTo [0] S_
  h_S_ : 0 < S_.numel
  slices_S160000_S159999_1 : S160000.Slices ![1] S159999
  slices_S160000_S159999_0 : S160000.Slices ![0] S159999
  reducesTo_S159999_S_d0 : S159999.ReducesTo [0] S_
  slices_S160000_S159488_512 : S160000.Slices ![512] S159488
  slices_S160000_S159488_0 : S160000.Slices ![0] S159488
  reducesTo_S159488_S_d0 : S159488.ReducesTo [0] S_

variable [Facts]

def fn {F : FTy → Type} [FloatOps F] (main_arg0 : FVec F S160000x256 .f32) (main_arg1 : IVec S160000 32) (main_arg2 : FVec F S256x128 .f32) (main_arg3 : FVec F S128 .f32) (main_arg4 : FVec F S128x1 .f32) (main_arg5 : FVec F S1 .f32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 1024#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  let main_v6 : IVec S159999 32 := (extractStridedSlice S159999 ![1] · slices_S160000_S159999_1) main_arg1
  let main_v7 : IVec S159999 32 := (extractStridedSlice S159999 ![0] · slices_S160000_S159999_0) main_arg1
  let main_v8 : IVec S159999 1 := cmpi .sge main_v6 main_v7
  let main_c_2 : IVec S_ 1 := constantI S_ 1 1#1
  let main_v9 : IVec S_ 1 := (fun x v => Host.reduce IntOp.andi x v reducesTo_S159999_S_d0 h_S_) main_v8 main_c_2
  let main_v10 : IVec S159488 32 := (extractStridedSlice S159488 ![512] · slices_S160000_S159488_512) main_arg1
  let main_v11 : IVec S159488 32 := (extractStridedSlice S159488 ![0] · slices_S160000_S159488_0) main_arg1
  let main_v12 : IVec S159488 1 := cmpi .sgt main_v10 main_v11
  let main_c_3 : IVec S_ 1 := constantI S_ 1 1#1
  let main_v13 : IVec S_ 1 := (fun x v => Host.reduce IntOp.andi x v reducesTo_S159488_S_d0 h_S_) main_v12 main_c_3
  let main_v14 : IVec S_ 1 := andi main_v5 main_v9
  let main_v15 : IVec S_ 1 := andi main_v14 main_v13
  main_v15
-- ==== Kernel.lean ====
abbrev S160000x256 : Shape := ⟨2, ![160000, 256]⟩
abbrev S160000 : Shape := ⟨1, ![160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100x1x1600 : Shape := ⟨3, ![100, 1, 1600]⟩
abbrev S1x128 : Shape := ⟨2, ![1, 128]⟩
abbrev S1x1 : Shape := ⟨2, ![1, 1]⟩
abbrev S1024x256 : Shape := ⟨2, ![1024, 256]⟩
abbrev S1x1x1600 : Shape := ⟨3, ![1, 1, 1600]⟩
abbrev S1600x256 : Shape := ⟨2, ![1600, 256]⟩
abbrev S1024x1 : Shape := ⟨2, ![1024, 1]⟩
abbrev S1600x128 : Shape := ⟨2, ![1600, 128]⟩
abbrev S1600 : Shape := ⟨1, ![1600]⟩
abbrev S1600x1 : Shape := ⟨2, ![1600, 1]⟩
abbrev S1600x1024 : Shape := ⟨2, ![1600, 1024]⟩

abbrev nBuf : Space → Nat
  | .hbm => 11
  | .vmem => 11
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100x1x1600, .i32⟩
  | .hbm, ⟨7, _⟩ => ⟨S1x128, .f32⟩
  | .hbm, ⟨8, _⟩ => ⟨S1x128, .f32⟩
  | .hbm, ⟨9, _⟩ => ⟨S1x1, .f32⟩
  | .hbm, ⟨10, _⟩ => ⟨S1024x256, .f32⟩
  | .local _ .vmem, ⟨0, _⟩ => ⟨S1x1x1600, .i32⟩
  | .local _ .vmem, ⟨1, _⟩ => ⟨S1x1x1600, .i32⟩
  | .local _ .vmem, ⟨2, _⟩ => ⟨S1600x256, .f32⟩
  | .local _ .vmem, ⟨3, _⟩ => ⟨S1600x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1024x256, .f32⟩
  | .local _ .vmem, ⟨9, _⟩ => ⟨S1024x256, .f32⟩
  | .local _ .vmem, ⟨10, _⟩ => ⟨S1024x1, .f32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v52 : BitVec 1 := Scalar.cmpi .eq arg0 c99_i32
  let v53 : BitVec 32 := Scalar.extui v52
  let c0_i32_26 : BitVec 32 := 0#32
  let v54 : BitVec 1 := Scalar.cmpi .ne v53 c0_i32_26
  v54

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
variable {F : FTy → Type} [FloatOps F] [Named F]
def κ : String → Option EReal := fun
  | "mask" => some ⊥
  | _ => none
-- ==== Reference.lean ====
abbrev S160000x256 : Shape := ⟨2, ![160000, 256]⟩
abbrev S160000 : Shape := ⟨1, ![160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S1x1 : Shape := ⟨2, ![1, 1]⟩
abbrev S1024 : Shape := ⟨1, ![1024]⟩
abbrev S160000x1 : Shape := ⟨2, ![160000, 1]⟩
abbrev S1023 : Shape := ⟨1, ![1023]⟩
abbrev S1024x512x256 : Shape := ⟨3, ![1024, 512, 256]⟩
abbrev S160000x2 : Shape := ⟨2, ![160000, 2]⟩
abbrev S512 : Shape := ⟨1, ![512]⟩
abbrev S1x512 : Shape := ⟨2, ![1, 512]⟩
abbrev S1024x1 : Shape := ⟨2, ![1024, 1]⟩
abbrev S1024x512 : Shape := ⟨2, ![1024, 512]⟩
abbrev S1024x512x128 : Shape := ⟨3, ![1024, 512, 128]⟩
abbrev S1x1x128 : Shape := ⟨3, ![1, 1, 128]⟩
abbrev S1024x512x1 : Shape := ⟨3, ![1024, 512, 1]⟩
abbrev S1x1x1 : Shape := ⟨3, ![1, 1, 1]⟩
abbrev S1024x1x1 : Shape := ⟨3, ![1024, 1, 1]⟩
abbrev S1024x256 : Shape := ⟨2, ![1024, 256]⟩

abbrev nBuf : Space → Nat
  | .hbm => 108
  | .vmem => 2
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S_, .i32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S_, .i32⟩
  | .hbm, ⟨24, _⟩ => ⟨S160000, .i32⟩
  | .hbm, ⟨25, _⟩ => ⟨S1024, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1023, .i32⟩
  | .hbm, ⟨32, _⟩ => ⟨S1024, .i32⟩
  | .hbm, ⟨33, _⟩ => ⟨S160000, .i32⟩
  | .hbm, ⟨34, _⟩ => ⟨S_, .i32⟩
  | .hbm, ⟨35, _⟩ => ⟨S160000, .i32⟩
  | .hbm, ⟨36, _⟩ => ⟨S160000, .i1⟩
  | .hbm, ⟨37, _⟩ => ⟨S_, .i32⟩
  | .hbm, ⟨38, _⟩ => ⟨S160000, .i32⟩
  | .hbm, ⟨39, _⟩ => ⟨S160000, .i32⟩
  | .hbm, ⟨40, _⟩ => ⟨S160000, .i32⟩
  | .hbm, ⟨41, _⟩ => ⟨S160000x1, .i32⟩
  | .hbm, ⟨42, _⟩ => ⟨S160000, .i32⟩
  | .hbm, ⟨43, _⟩ => ⟨S160000, .i32⟩
  | .hbm, ⟨44, _⟩ => ⟨S_, .f32⟩
  | .hbm, ⟨45, _⟩ => ⟨S1024x512x256, .f32⟩
  | .hbm, ⟨46, _⟩ => ⟨S_, .i32⟩
  | .hbm, ⟨47, _⟩ => ⟨S160000, .i32⟩
  | .hbm, ⟨48, _⟩ => ⟨S160000, .i1⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S160000, .i32⟩
  | .hbm, ⟨53, _⟩ => ⟨S_, .i32⟩
  | .hbm, ⟨54, _⟩ => ⟨S160000, .i32⟩
  | .hbm, ⟨55, _⟩ => ⟨S160000, .i1⟩
  | .hbm, ⟨56, _⟩ => ⟨S_, .i32⟩
  | .hbm, ⟨57, _⟩ => ⟨S160000, .i32⟩
  | .hbm, ⟨58, _⟩ => ⟨S160000, .i32⟩
  | .hbm, ⟨59, _⟩ => ⟨S160000, .i32⟩
  | .hbm, ⟨60, _⟩ => ⟨S160000x1, .i32⟩
  | .hbm, ⟨61, _⟩ => ⟨S160000x1, .i32⟩
  | .hbm, ⟨62, _⟩ => ⟨S160000x2, .i32⟩
  | .hbm, ⟨63, _⟩ => ⟨S1024x512x256, .f32⟩
  | .hbm, ⟨64, _⟩ => ⟨S512, .i32⟩
  | .hbm, ⟨65, _⟩ => ⟨S1x512, .i32⟩
  | .hbm, ⟨66, _⟩ => ⟨S1024x1, .i32⟩
  | .hbm, ⟨67, _⟩ => ⟨S1024x512, .i32⟩
  | .hbm, ⟨68, _⟩ => ⟨S1024x512, .i32⟩
  | .hbm, ⟨69, _⟩ => ⟨S1024x512, .i1⟩
  | .hbm, ⟨70, _⟩ => ⟨S1024x512x128, .f32⟩
  | .hbm, ⟨71, _⟩ => ⟨S1x1x128, .f32⟩
  | .hbm, ⟨72, _⟩ => ⟨S1024x512x128, .f32⟩
  | .hbm, ⟨73, _⟩ => ⟨S1024x512x128, .f32⟩
  | .hbm, ⟨74, _⟩ => ⟨S1024x512x128, .f32⟩
  | .hbm, ⟨75, _⟩ => ⟨S1024x512x1, .f32⟩
  | .hbm, ⟨76, _⟩ => ⟨S1x1x1, .f32⟩
  | .hbm, ⟨77, _⟩ => ⟨S1024x512x1, .f32⟩
  | .hbm, ⟨78, _⟩ => ⟨S1024x512x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1024x512x1, .f32⟩
  | .hbm, ⟨83, _⟩ => ⟨S1024x512x1, .f32⟩
  | .hbm, ⟨84, _⟩ => ⟨S_, .f32⟩
  | .hbm, ⟨85, _⟩ => ⟨S1024x512x1, .f32⟩
  | .hbm, ⟨86, _⟩ => ⟨S1024x512x1, .f32⟩
  | .hbm, ⟨87, _⟩ => ⟨S1024x512x1, .i1⟩
  | .hbm, ⟨88, _⟩ => ⟨S1024x512x1, .f32⟩
  | .hbm, ⟨89, _⟩ => ⟨S1024x512x1, .f32⟩
  | .hbm, ⟨90, _⟩ => ⟨S_, .f32⟩
  | .hbm, ⟨91, _⟩ => ⟨S1024x1, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S1024x1x1, .f32⟩
  | .hbm, ⟨96, _⟩ => ⟨S1024x512x1, .f32⟩
  | .hbm, ⟨97, _⟩ => ⟨S1024x512x1, .f32⟩
  | .hbm, ⟨98, _⟩ => ⟨S1024x512x1, .f32⟩
  | .hbm, ⟨99, _⟩ => ⟨S_, .f32⟩
  | .hbm, ⟨100, _⟩ => ⟨S1024x1, .f32⟩
  | .hbm, ⟨101, _⟩ => ⟨S1024x1x1, .f32⟩
  | .hbm, ⟨102, _⟩ => ⟨S1024x512x1, .f32⟩
  | .hbm, ⟨103, _⟩ => ⟨S1024x512x1, .f32⟩
  | .hbm, ⟨104, _⟩ => ⟨S1024x512x256, .f32⟩
  | .hbm, ⟨105, _⟩ => ⟨S1024x512x256, .f32⟩
  | .hbm, ⟨106, _⟩ => ⟨S_, .f32⟩
  | .hbm, ⟨107, _⟩ => ⟨S1024x256, .f32⟩
  | .local _ .vmem, ⟨0, _⟩ => ⟨S1x1, .f32⟩
  | .local _ .vmem, ⟨1, _⟩ => ⟨S1x1, .f32⟩
  | _, _ => ⟨S160000x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_call1_call0_c : Ref sig .tc := ⟨.hbm, 28, rfl⟩
abbrev main_call1_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v55 : Ref sig .tc := ⟨.hbm, 86, rfl⟩
abbrev main_v56 : Ref sig .tc := ⟨.hbm, 87, rfl⟩
abbrev main_call3_v0 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelStep.lean ====
module

public import proofs.«01_k».proof.Proof.Gen.KernelIdeal.Value

@[expose] public section

/-!
# One grid point

What the two accumulators hold after a grid point, from what they held before it: zero first at the first point, the
quotient written at the last.
-/

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The two-axis zero offset is the zero function. -/
theorem zero2 : (![0, 0] : Fin 2 → Nat) = fun _ => 0 := funext fun a => by fin_cases a <;> rfl
/-- The three-axis zero offset is the zero function. -/
theorem zero3 : (![0, 0, 0] : Fin 3 → Nat) = fun _ => 0 := funext fun a => by fin_cases a <;> rfl

/-- The numerator's accumulator after a block of rows, from what it held before. -/
def numStep (c : Dev nD) (t : Fin cfg0.N) (num : Vec F S1024x256 .f32) : Vec F S1024x256 .f32 :=
  k0_pay1 (k0_pay9 (iblk m c 0 t))
    (k0_pay10 (iblk m c 1 t) (iblk m c 2 t) (iblk m c 3 t) (iblk m c 4 t) (iblk m c 5 t)) num

/-- The denominator's accumulator after a block of rows, from what it held before. -/
def denStep (c : Dev nD) (t : Fin cfg0.N) (den : Vec F S1024x1 .f32) : Vec F S1024x1 .f32 :=
  k0_pay2 (k0_pay6 (iblk m c 1 t) (iblk m c 2 t) (iblk m c 3 t) (iblk m c 4 t) (iblk m c 5 t))
    (k0_pay8 (iblk m c 0 t)) den

/-- At a middle point both accumulators take one step. -/
theorem step_B (c : Dev nD) (t : Fin cfg0.N) (acc : Vec F S1024x256 .f32 × Vec F S1024x256 .f32 × Vec F S1024x1 .f32)
    (h0 : ¬t.val % 100 = 0) (h1 : ¬t.val % 100 = 99) :
    (stAt0 m c t.val t.isLt acc).2 = (numStep m c t acc.2.1, denStep m c t acc.2.2) := by
  rw [stAt0_B m c t acc h0 h1]
  dsimp only
  unfold sout0_B_0 sout0_B_1
  rw [View.read_writes_eq_canon _ _ _ ?hnum, View.read_writes_eq_canon _ _ _ ?hden]
  case hnum => exact fun y => scover0_B_0 (y := y) ..
  case hden => exact fun y => scover0_B_1 (y := y) ..
  unfold kernelRun0_B
  dsimp only
  sl_unfold_words
  rw [View.canon_unit_zero zero2, View.canon_unit_zero zero2]
  simp only [View.readAt_eq_ld, (hs0_0 t).read_unread, (hs0_1 t).read_unread, (hs0_2 t).read_unread,
    (hs0_3 t).read_unread, (hs0_4 t).read_unread, (hs0_5 t).read_unread, (Memref.isWhole_whole _).read_unread,
    View.ld_unit_zero (S := S1x1x1600) zero3, View.ld_unit_zero (S := S1600x256) zero2,
    View.ld_unit_zero (S := S256x128) zero2, View.ld_unit_zero (S := S1x128) zero2,
    View.ld_unit_zero (S := S1x1) zero2, View.ld_unit_zero (S := S1024x256) zero2, View.ld_unit_zero (S := S1024x1) zero2]
  rfl

/-- At the first point both accumulators take one step from zero. -/
theorem step_A (c : Dev nD) (t : Fin cfg0.N) (acc : Vec F S1024x256 .f32 × Vec F S1024x256 .f32 × Vec F S1024x1 .f32)
    (h0 : t.val % 100 = 0) (h1 : ¬t.val % 100 = 99) :
    (stAt0 m c t.val t.isLt acc).2 = (numStep m c t k0_pay4, denStep m c t k0_pay5) := by
  rw [stAt0_A m c t acc h0 h1]
  dsimp only
  unfold sout0_A_0 sout0_A_1
  rw [View.read_writes_eq_canon _ _ _ ?hnum, View.read_writes_eq_canon _ _ _ ?hden]
  case hnum => exact fun y => scover0_A_0 (y := y) ..
  case hden => exact fun y => scover0_A_1 (y := y) ..
  unfold kernelRun0_A
  dsimp only
  sl_unfold_words
  rw [View.canon_cons_unit_zero (S := S1024x256) zero2, View.canon_cons_unit_zero (S := S1024x1) zero2,
    View.readCov_unit_zero (S := S1024x256) _ zero2, View.readCov_unit_zero (S := S1024x1) _ zero2]
  simp only [View.readAt_eq_ld, (hs0_0 t).read_unread, (hs0_1 t).read_unread, (hs0_2 t).read_unread,
    (hs0_3 t).read_unread, (hs0_4 t).read_unread, (hs0_5 t).read_unread,
    View.ld_unit_zero (S := S1x1x1600) zero3, View.ld_unit_zero (S := S1600x256) zero2,
    View.ld_unit_zero (S := S256x128) zero2, View.ld_unit_zero (S := S1x128) zero2,
    View.ld_unit_zero (S := S1x1) zero2]
  rfl

/-- At the last point the result is the quotient of the two accumulators after their last step. -/
theorem step_C (c : Dev nD) (t : Fin cfg0.N) (acc : Vec F S1024x256 .f32 × Vec F S1024x256 .f32 × Vec F S1024x1 .f32)
    (h0 : ¬t.val % 100 = 0) (h1 : t.val % 100 = 99) :
    (stAt0 m c t.val t.isLt acc).1 = k0_pay3 (denStep m c t acc.2.2) (numStep m c t acc.2.1) := by
  rw [stAt0_C m c t acc h0 h1]
  dsimp only
  unfold out0_C_6
  rw [View.read_writes_eq_canon _ _ _ ?hout]
  case hout => exact fun y => cover0_C_6 (y := y) ..
  unfold kernelRun0_C
  dsimp only
  sl_unfold_words
  rw [View.canon_unit_zero zero2, View.readCov_unit_zero (S := S1024x256) _ zero2, View.readCov_unit_zero (S := S1024x1) _ zero2]
  simp only [View.readAt_eq_ld, (hs0_0 t).read_unread, (hs0_1 t).read_unread, (hs0_2 t).read_unread,
    (hs0_3 t).read_unread, (hs0_4 t).read_unread, (hs0_5 t).read_unread, (Memref.isWhole_whole _).read_unread,
    View.ld_unit_zero (S := S1x1x1600) zero3, View.ld_unit_zero (S := S1600x256) zero2,
    View.ld_unit_zero (S := S256x128) zero2, View.ld_unit_zero (S := S1x128) zero2,
    View.ld_unit_zero (S := S1x1) zero2, View.ld_unit_zero (S := S1024x256) zero2, View.ld_unit_zero (S := S1024x1) zero2]
  rfl

end Cert.KernelIdeal.Value

end
-- ==== Proof.Spec.lean ====
module

public import Idealize.ShloMosaic.PureOps.Ideal
public import Idealize.ShloMosaic.PureOps.Ideal.Laws
public import Idealize.ShloMosaic.Lib.ValueIdx

@[expose] public section

/-!
# One row's attention score

The score of a row is a two-layer perceptron's output, clipped to [-10, 10]. The clip makes it a real number whatever the
inputs are, which is what lets the two programs' quotients be compared.
-/

noncomputable section

namespace Cert.Spec

open Idealize.ShloMosaic Idealize.ShloMosaic.ValueIdx

/-- A row's clipped score: `min 10 (max (-10) (Σ_h tanh (Σ_k row k · W1 k h + b1 h) · W2 h + b2))`. -/
def score (row : Fin 256 → EReal) (W1 : (⟨2, ![256, 128]⟩ : Shape).Idx → EReal) (b1 : (⟨1, ![128]⟩ : Shape).Idx → EReal)
    (W2 : (⟨2, ![128, 1]⟩ : Shape).Idx → EReal) (b2 : (⟨1, ![1]⟩ : Shape).Idx → EReal) : EReal :=
  min (Ideal.ofBits .f32 0x41200000#32) (max (Ideal.ofBits .f32 0xC1200000#32)
    ((∑ h : Fin 128, Ideal.tanh ((∑ k : Fin 256, row k * W1 (ix2 k h)) + b1 (ix1 h)) * W2 (ix2 h (0 : Fin 1))) + b2 (ix1 (0 : Fin 1))))

/-- The upper clip is 10. -/
theorem ten : Ideal.ofBits .f32 0x41200000#32 = ((10 : ℝ) : EReal) := by
  simp [Ideal.ofBits, Ideal.ieee]
  rw [← EReal.coe_mul]; norm_num

/-- The lower clip is -10. -/
theorem minus_ten : Ideal.ofBits .f32 0xC1200000#32 = ((-10 : ℝ) : EReal) := by
  simp [Ideal.ofBits, Ideal.ieee]
  rw [← EReal.coe_mul]; norm_num

/-- The word of minus infinity is the bottom element. -/
theorem minus_inf : Ideal.ofBits .f32 0xFF800000#32 = (⊥ : EReal) := by
  simp [Ideal.ofBits, Ideal.ieee]

/-- A clipped score is a real number. -/
theorem score_real (row : Fin 256 → EReal) (W1 : (⟨2, ![256, 128]⟩ : Shape).Idx → EReal) (b1 : (⟨1, ![128]⟩ : Shape).Idx → EReal)
    (W2 : (⟨2, ![128, 1]⟩ : Shape).Idx → EReal) (b2 : (⟨1, ![1]⟩ : Shape).Idx → EReal) : ∃ r : ℝ, score row W1 b1 W2 b2 = (r : EReal) := by
  unfold score
  rw [ten, minus_ten]
  generalize (∑ h : Fin 128, Ideal.tanh ((∑ k : Fin 256, row k * W1 (ix2 k h)) + b1 (ix1 h)) * W2 (ix2 h (0 : Fin 1))) + b2 (ix1 (0 : Fin 1)) = z
  refine ⟨_, (EReal.coe_toReal (ne_top_of_le_ne_top (EReal.coe_ne_top 10) (min_le_left _ _)) ?_).symm⟩
  refine ne_bot_of_le_ne_bot (EReal.coe_ne_bot (-10)) (le_min ?_ (le_max_left _ _))
  exact_mod_cast (by norm_num : (-10 : ℝ) ≤ 10)

variable (g : ℕ → ℕ) (x : (⟨2, ![160000, 256]⟩ : Shape).Idx → EReal) (W1 : (⟨2, ![256, 128]⟩ : Shape).Idx → EReal)
  (b1 : (⟨1, ![128]⟩ : Shape).Idx → EReal) (W2 : (⟨2, ![128, 1]⟩ : Shape).Idx → EReal) (b2 : (⟨1, ![1]⟩ : Shape).Idx → EReal)

/-- Row `n`'s score. -/
def rowScore (n : Fin 160000) : EReal := score (fun k => x (ix2 n k)) W1 b1 W2 b2

/-- Label `b`'s denominator: the exponentials of its rows' scores, summed. -/
def den (b : ℕ) : EReal := ∑ n : Fin 160000, if g n.val = b then Ideal.exp (rowScore x W1 b1 W2 b2 n) else 0

/-- Label `b`'s numerator in column `d`: its rows' values times the exponentials of their scores, summed. -/
def num (b : ℕ) (d : Fin 256) : EReal :=
  ∑ n : Fin 160000, if g n.val = b then x (ix2 n d) * Ideal.exp (rowScore x W1 b1 W2 b2 n) else 0

/-- The pooled value of label `b` in column `d`: the quotient, or zero for a label no row has. -/
def pool (b : ℕ) (d : Fin 256) : EReal :=
  if 0 < den g x W1 b1 W2 b2 b then Ideal.div (num g x W1 b1 W2 b2 b d) (den g x W1 b1 W2 b2 b) else 0

end Cert.Spec
-- ==== Proof.Block.lean ====
module

public import proofs.«01_k».proof.Proof.Gen.KernelIdeal.Skeleton
public import proofs.«01_k».proof.Proof.Spec
public import Idealize.ShloMosaic.Lib.Pointwise
public import Idealize.ShloMosaic.Lib.Pointwise.IndexBridge

@[expose] public section

/-!
# What one block computes

The body's values at an index, over the extended reals: the weight of a row, the one-hot table of the rows' labels, and
what a block adds to the two accumulators.
-/

set_option maxRecDepth 16384

noncomputable section

namespace Cert.KernelIdeal.Block

open Cert.KernelIdeal Cert.KernelIdeal.Gen Idealize.ShloMosaic

/-- A row's weight: the exponential of its score. -/
theorem weight_at (x : Vec Ideal S1600x256 .f32) (W1 : Vec Ideal S256x128 .f32) (b1 : Vec Ideal S1x128 .f32)
    (w2 : Vec Ideal S1x128 .f32) (b2 : Vec Ideal S1x1 .f32) (n : Fin 1600) :
    k0_pay6 (F := Ideal) x W1 b1 w2 b2 (ValueIdx.ix2 n (0 : Fin 1))
      = Ideal.exp (Spec.score (fun k => x (ValueIdx.ix2 n k)) W1 (fun i => b1 (ValueIdx.ix2 (0 : Fin 1) (i 0)))
          (fun i => w2 (ValueIdx.ix2 (0 : Fin 1) (i 0))) (fun _ => b2 (ValueIdx.ix2 (0 : Fin 1) (0 : Fin 1)))) := by
  unfold Spec.score
  simp only [← ix2_eq_valueIdx]
  pointwise [k0_pay6]

/-- A row's values times its weight. -/
theorem weighted_at (x : Vec Ideal S1600x256 .f32) (W1 : Vec Ideal S256x128 .f32) (b1 : Vec Ideal S1x128 .f32)
    (w2 : Vec Ideal S1x128 .f32) (b2 : Vec Ideal S1x1 .f32) (n : Fin 1600) (d : Fin 256) :
    k0_pay10 (F := Ideal) x W1 b1 w2 b2 (ValueIdx.ix2 n d)
      = x (ValueIdx.ix2 n d) * k0_pay6 (F := Ideal) x W1 b1 w2 b2 (ValueIdx.ix2 n (0 : Fin 1)) := by
  simp only [← ix2_eq_valueIdx]
  pointwise [k0_pay10]

/-- Whether a row's label is `b`. -/
theorem same_at (v : Vec Ideal S1x1x1600 .i32) (n : Fin 1600) (b : Fin 1024) :
    k0_pay7 (F := Ideal) v (ValueIdx.ix2 n b)
      = IntOp.cmpi .eq (v (ValueIdx.ix3 (0 : Fin 1) (0 : Fin 1) n)) (BitVec.ofNat 32 b.val) := by
  simp only [← ix2_eq_valueIdx, ← ix3_eq_valueIdx]
  pointwise [k0_pay7]

/-- The one-hot table as numbers. -/
theorem hot_at (v : Vec Ideal S1x1x1600 .i32) (n : Fin 1600) (b : Fin 1024) :
    k0_pay8 (F := Ideal) v (ValueIdx.ix2 n b)
      = if v (ValueIdx.ix3 (0 : Fin 1) (0 : Fin 1) n) = BitVec.ofNat 32 b.val then (1 : EReal) else 0 := by
  unfold k0_pay8
  rw [ValueIdx.sitofp_apply, ValueIdx.extui_apply, same_at]
  by_cases h : v (ValueIdx.ix3 (0 : Fin 1) (0 : Fin 1) n) = BitVec.ofNat 32 b.val
  · rw [if_pos h, IntOp.cmpi_eq.2 h]
    show (((BitVec.setWidth 32 1#1).toInt : ℝ) : EReal) = 1
    rw [show (BitVec.setWidth 32 1#1).toInt = 1 by decide]
    simp
  · have z : ∀ w : BitVec 1, w ≠ 1#1 → w = 0#1 := by decide
    rw [if_neg h, z _ fun e => h (IntOp.cmpi_eq.1 e)]
    show (((BitVec.setWidth 32 0#1).toInt : ℝ) : EReal) = 0
    rw [show (BitVec.setWidth 32 0#1).toInt = 0 by decide]
    simp

/-- The narrowed table holds the same numbers. -/
theorem hot_narrow_at (v : Vec Ideal S1x1x1600 .i32) (n : Fin 1600) (b : Fin 1024) :
    k0_pay9 (F := Ideal) v (ValueIdx.ix2 n b) = k0_pay8 (F := Ideal) v (ValueIdx.ix2 n b) := rfl

/-- What a block leaves in the numerator's accumulator. -/
theorem num_at (p : FVec Ideal S1600x1024 .bf16) (y : FVec Ideal S1600x256 .f32) (a : Vec Ideal S1024x256 .f32)
    (b : Fin 1024) (d : Fin 256) :
    k0_pay1 (F := Ideal) p y a (ValueIdx.ix2 b d)
      = a (ValueIdx.ix2 b d) + ∑ n : Fin 1600, p (ValueIdx.ix2 n b) * y (ValueIdx.ix2 n d) := by
  simp only [← ix2_eq_valueIdx]
  pointwise [k0_pay1]

/-- What a block leaves in the denominator's accumulator. -/
theorem den_at (p : FVec Ideal S1600x1024 .f32) (y : FVec Ideal S1600x1 .f32) (a : Vec Ideal S1024x1 .f32) (b : Fin 1024) :
    k0_pay2 (F := Ideal) y p a (ValueIdx.ix2 b (0 : Fin 1))
      = a (ValueIdx.ix2 b (0 : Fin 1)) + ∑ n : Fin 1600, p (ValueIdx.ix2 n b) * y (ValueIdx.ix2 n (0 : Fin 1)) := by
  simp only [← ix2_eq_valueIdx]
  pointwise [k0_pay2]

/-- The last point's quotient. -/
theorem quotient_at (e : Vec Ideal S1024x1 .f32) (a : Vec Ideal S1024x256 .f32) (b : Fin 1024) (d : Fin 256) :
    k0_pay3 (F := Ideal) e a (ValueIdx.ix2 b d)
      = if 0 < e (ValueIdx.ix2 b (0 : Fin 1)) then Ideal.div (a (ValueIdx.ix2 b d)) (e (ValueIdx.ix2 b (0 : Fin 1))) else 0 := by
  simp only [← ix2_eq_valueIdx]
  pointwise [k0_pay3]

/-- The accumulators start at zero. -/
theorem num_zero (i : S1024x256.Idx) : k0_pay4 (F := Ideal) i = (0 : EReal) := by
  pointwise [k0_pay4]

/-- The accumulators start at zero. -/
theorem den_zero (i : S1024x1.Idx) : k0_pay5 (F := Ideal) i = (0 : EReal) := by
  pointwise [k0_pay5]

end Cert.KernelIdeal.Block
-- ==== Proof.Blocks.lean ====
module

public import proofs.«01_k».proof.Proof.Gen.KernelIdeal.Frame.Runs
public import Idealize.ShloMosaic.Lib.Pipeline.Value
public import Idealize.ShloMosaic.Lib.ValueIdxCore

@[expose] public section

/-!
# What the arrays hold

Each block the kernel reads, as entries of the arguments: rows `1600 t` and on at point `t`, and the weights whole.
-/

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ) (c : Dev nD)

/-- The labels as the kernel is given them: the argument in 100 blocks of 1600. -/
theorem V_labels : V m c main_v0 = shapeCast S100x1x1600 (m ((c : Thread nD τ).loc main_arg1)) shapeCasts_S160000_S100x1x1600 := by
  show StableHlo.after hostOps0 _ (Proc.devRef .tc main_v0) = _
  after_results
  rfl

/-- The hidden layer's offsets as the kernel is given them: the argument as one row. -/
theorem V_b1 : V m c main_v1 = shapeCast S1x128 (m ((c : Thread nD τ).loc main_arg3)) shapeCasts_S128_S1x128 := by
  show StableHlo.after hostOps0 _ (Proc.devRef .tc main_v1) = _
  after_results
  rfl

/-- The output layer's weights as the kernel is given them: the argument's column as one row. -/
theorem V_W2 : V m c main_v2 = shapeCast S1x128 (m ((c : Thread nD τ).loc main_arg4)) shapeCasts_S128x1_S1x128 := by
  show StableHlo.after hostOps0 _ (Proc.devRef .tc main_v2) = _
  after_results
  rfl

/-- The output layer's offset as the kernel is given it: the argument as a one-element matrix. -/
theorem V_b2 : V m c main_v3 = shapeCast S1x1 (m ((c : Thread nD τ).loc main_arg5)) shapeCasts_S1_S1x1 := by
  show StableHlo.after hostOps0 _ (Proc.devRef .tc main_v3) = _
  after_results
  rfl

/-- The blocks' places in their arrays, over the grid. -/
theorem index_labels : ∀ t : Fin grid0.N, win0_0.index t 0 = t.val ∧ win0_0.index t 1 = 0 ∧ win0_0.index t 2 = 0 := by decide +kernel
/-- The blocks' places in their arrays, over the grid. -/
theorem index_rows : ∀ t : Fin grid0.N, win0_1.index t 0 = t.val ∧ win0_1.index t 1 = 0 := by decide +kernel
/-- The blocks' places in their arrays, over the grid. -/
theorem index_W1 : ∀ t : Fin grid0.N, win0_2.index t 0 = 0 ∧ win0_2.index t 1 = 0 := by decide +kernel
/-- The blocks' places in their arrays, over the grid. -/
theorem index_b1 : ∀ t : Fin grid0.N, win0_3.index t 0 = 0 ∧ win0_3.index t 1 = 0 := by decide +kernel
/-- The blocks' places in their arrays, over the grid. -/
theorem index_W2 : ∀ t : Fin grid0.N, win0_4.index t 0 = 0 ∧ win0_4.index t 1 = 0 := by decide +kernel
/-- The blocks' places in their arrays, over the grid. -/
theorem index_b2 : ∀ t : Fin grid0.N, win0_5.index t 0 = 0 ∧ win0_5.index t 1 = 0 := by decide +kernel

/-- Row `n` of block `t`, as a row of the whole array. -/
def row (t : Fin cfg0.N) (n : Fin 1600) : Fin 160000 :=
  ⟨t.val * 1600 + n.val, by have h : t.val < 100 := lt_of_lt_of_eq t.isLt N_0; have := n.isLt; omega⟩

/-- Block `t` of the labels. -/
theorem labels_at (t : Fin cfg0.N) (n : Fin 1600) :
    iblk m c 0 t (ix3 (0 : Fin 1) (0 : Fin 1) n) = m ((c : Thread nD τ).loc main_arg1) (ix1 (row t n)) := by
  have hi := index_labels t
  have ht : t.val < 100 := lt_of_lt_of_eq t.isLt N_0
  have e : (((cfg0.win 0).blk t).view.emb (ix3 (0 : Fin 1) (0 : Fin 1) n) : S100x1x1600.Idx)
      = ix3 (⟨t.val, ht⟩ : Fin 100) (0 : Fin 1) n := by
    funext a
    apply Fin.ext
    match a with
    | ⟨0, _⟩ => show win0_0.index t 0 * 1 + 1 * 0 = t.val; rw [hi.1]; omega
    | ⟨1, _⟩ => show win0_0.index t 1 * 1 + 1 * 0 = 0; rw [hi.2.1]
    | ⟨2, _⟩ => show win0_0.index t 2 * 1600 + 1 * n.val = n.val; rw [hi.2.2]; omega
  unfold iblk
  rw [View.read_apply]
  show V m c main_v0 (((cfg0.win 0).blk t).view.emb (ix3 (0 : Fin 1) (0 : Fin 1) n) : S100x1x1600.Idx) = _
  rw [e, V_labels]
  refine shapeCast_apply _ _ _ _ ?_
  refine (Shape.rowMajor_val_one (ix1 (row t n))).trans
    (Eq.trans ?_ (Shape.rowMajor_val_three (ix3 (⟨t.val, ht⟩ : Fin 100) (0 : Fin 1) n)).symm)
  show t.val * 1600 + n.val = (t.val * 1 + 0) * 1600 + n.val
  omega

/-- Block `t` of the rows. -/
theorem rows_at (t : Fin cfg0.N) (n : Fin 1600) (k : Fin 256) :
    iblk m c 1 t (ix2 n k) = m ((c : Thread nD τ).loc main_arg0) (ix2 (row t n) k) := by
  have hi := index_rows t
  have e : (((cfg0.win 1).blk t).view.emb (ix2 n k) : S160000x256.Idx) = ix2 (row t n) k := by
    funext a
    apply Fin.ext
    match a with
    | ⟨0, _⟩ => show win0_1.index t 0 * 1600 + 1 * n.val = t.val * 1600 + n.val; rw [hi.1]; omega
    | ⟨1, _⟩ => show win0_1.index t 1 * 256 + 1 * k.val = k.val; rw [hi.2]; omega
  unfold iblk
  rw [View.read_apply]
  show V m c main_arg0 (((cfg0.win 1).blk t).view.emb (ix2 n k) : S160000x256.Idx) = _
  rw [e, V_main_arg0]

/-- The hidden layer's weights, whole at every point. -/
theorem W1_at (t : Fin cfg0.N) : (iblk m c 2 t : Vec F S256x128 .f32) = m ((c : Thread nD τ).loc main_arg2) := by
  have hi := index_W1 t
  funext j
  have e : (((cfg0.win 2).blk t).view.emb j : S256x128.Idx) = j := by
    funext a
    apply Fin.ext
    match a with
    | ⟨0, _⟩ => show win0_2.index t 0 * 256 + 1 * (j 0).val = (j 0).val; rw [hi.1]; omega
    | ⟨1, _⟩ => show win0_2.index t 1 * 128 + 1 * (j 1).val = (j 1).val; rw [hi.2]; omega
  unfold iblk
  rw [View.read_apply]
  show V m c main_arg2 (((cfg0.win 2).blk t).view.emb j : S256x128.Idx) = _
  rw [e, V_main_arg2]

/-- The hidden layer's offsets, at every point. -/
theorem b1_at (t : Fin cfg0.N) (h : Fin 128) :
    iblk m c 3 t (ix2 (0 : Fin 1) h) = m ((c : Thread nD τ).loc main_arg3) (ix1 h) := by
  have hi := index_b1 t
  have e : (((cfg0.win 3).blk t).view.emb (ix2 (0 : Fin 1) h) : S1x128.Idx) = ix2 (0 : Fin 1) h := by
    funext a
    apply Fin.ext
    match a with
    | ⟨0, _⟩ => show win0_3.index t 0 * 1 + 1 * 0 = 0; rw [hi.1]
    | ⟨1, _⟩ => show win0_3.index t 1 * 128 + 1 * h.val = h.val; rw [hi.2]; omega
  unfold iblk
  rw [View.read_apply]
  show V m c main_v1 (((cfg0.win 3).blk t).view.emb (ix2 (0 : Fin 1) h) : S1x128.Idx) = _
  rw [e, V_b1]
  refine shapeCast_apply _ _ _ _ ?_
  refine (Shape.rowMajor_val_one (ix1 h)).trans (Eq.trans ?_ (Shape.rowMajor_val_two (ix2 (0 : Fin 1) h)).symm)
  show h.val = 0 * 128 + h.val
  omega

/-- The output layer's weights, at every point. -/
theorem W2_at (t : Fin cfg0.N) (h : Fin 128) :
    iblk m c 4 t (ix2 (0 : Fin 1) h) = m ((c : Thread nD τ).loc main_arg4) (ix2 h (0 : Fin 1)) := by
  have hi := index_W2 t
  have e : (((cfg0.win 4).blk t).view.emb (ix2 (0 : Fin 1) h) : S1x128.Idx) = ix2 (0 : Fin 1) h := by
    funext a
    apply Fin.ext
    match a with
    | ⟨0, _⟩ => show win0_4.index t 0 * 1 + 1 * 0 = 0; rw [hi.1]
    | ⟨1, _⟩ => show win0_4.index t 1 * 128 + 1 * h.val = h.val; rw [hi.2]; omega
  unfold iblk
  rw [View.read_apply]
  show V m c main_v2 (((cfg0.win 4).blk t).view.emb (ix2 (0 : Fin 1) h) : S1x128.Idx) = _
  rw [e, V_W2]
  refine shapeCast_apply _ _ _ _ ?_
  refine (Shape.rowMajor_val_two (ix2 h (0 : Fin 1))).trans (Eq.trans ?_ (Shape.rowMajor_val_two (ix2 (0 : Fin 1) h)).symm)
  show h.val * 1 + 0 = 0 * 128 + h.val
  omega

/-- The output layer's offset, at every point. -/
theorem b2_at (t : Fin cfg0.N) :
    iblk m c 5 t (ix2 (0 : Fin 1) (0 : Fin 1)) = m ((c : Thread nD τ).loc main_arg5) (ix1 (0 : Fin 1)) := by
  have hi := index_b2 t
  have e : (((cfg0.win 5).blk t).view.emb (ix2 (0 : Fin 1) (0 : Fin 1)) : S1x1.Idx) = ix2 (0 : Fin 1) (0 : Fin 1) := by
    funext a
    apply Fin.ext
    match a with
    | ⟨0, _⟩ => show win0_5.index t 0 * 1 + 1 * 0 = 0; rw [hi.1]
    | ⟨1, _⟩ => show win0_5.index t 1 * 1 + 1 * 0 = 0; rw [hi.2]
  unfold iblk
  rw [View.read_apply]
  show V m c main_v3 (((cfg0.win 5).blk t).view.emb (ix2 (0 : Fin 1) (0 : Fin 1)) : S1x1.Idx) = _
  rw [e, V_b2]
  refine shapeCast_apply _ _ _ _ ?_
  refine (Shape.rowMajor_val_one (ix1 (0 : Fin 1))).trans
    (Eq.trans ?_ (Shape.rowMajor_val_two (ix2 (0 : Fin 1) (0 : Fin 1))).symm)
  rfl

end Cert.KernelIdeal.Blocks
-- ==== Proof.Labels.lean ====
module

public import proofs.«01_k».proof.Proof.Gen.Pre_sorted_short_bags
public import Idealize.ShloMosaic.Lib.ReduceAll
public import Idealize.ShloMosaic.Lib.WordCmp
public import Idealize.ShloMosaic.Lib.ValueIdx
public import Idealize.ShloMosaic.Lib.Pipeline.Value
public import Idealize.ShloMosaic.PureOps.Ideal.Laws

@[expose] public section

/-!
# What the precondition says of the labels

`label x n` is row `n`'s label as a number. The precondition gives: every label is below 1024; labels do not decrease;
a row's label is below the label of the row 512 further on.
-/

set_option maxRecDepth 16384

noncomputable section

namespace Cert.Labels

open Idealize.ShloMosaic Idealize.ShloMosaic.ValueIdx

/-- A list of 160000 label words. -/
abbrev Words : Type := (⟨1, ![160000]⟩ : Shape).Idx → BitVec 32

/-- Row `n`'s label as a number; past the last row, zero. -/
def label (x : Words) (n : ℕ) : ℕ := if h : n < 160000 then (x (ix1 ⟨n, h⟩)).toNat else 0

/-- Labels are patients' numbers, sorted, and no patient has more than 512 rows. -/
structure Good (x : Words) : Prop where
  /-- A label is a patient's number. -/
  inside : ∀ n : Fin 160000, label x n.val < 1024
  /-- Labels do not decrease. -/
  sorted : ∀ i j, i ≤ j → j < 160000 → label x i ≤ label x j
  /-- The row 512 further on is another patient's. -/
  short : ∀ i, i + 512 < 160000 → label x i < label x (i + 512)

/-- A row's word is its label. -/
theorem word_eq (x : Words) (n : Fin 160000) : x (ix1 n) = BitVec.ofNat 32 (label x n.val) := by
  unfold label
  rw [dif_pos n.isLt, BitVec.ofNat_toNat, BitVec.setWidth_eq]

/-- The number at a row within range. -/
theorem label_of_lt (x : Words) (n : ℕ) (h : n < 160000) : label x n = (x (ix1 ⟨n, h⟩)).toNat := dif_pos h

/-- Read signed, a good row's word is its label. -/
theorem Good.toInt {x : Words} (h : Good x) (n : Fin 160000) : (x (ix1 n)).toInt = (label x n.val : Int) := by
  have h1 := h.inside n
  rw [label_of_lt x _ n.isLt] at h1 ⊢
  have h2 : (x (ix1 n)).toNat < 1024 := h1
  rw [BitVec.toInt_eq_toNat_cond, if_pos (by omega)]

/-- A one-bit conjunction that is one has both its bits one. -/
theorem and_one {a b : BitVec 1} (h : IntOp.andi a b = 1#1) : a = 1#1 ∧ b = 1#1 := by
  revert a b; decide

/-- A nonnegative word below 1024, read signed, is below 1024 as a number. -/
theorem small_of_signed {a : BitVec 32} (h0 : IntOp.cmpi .sge a 0#32 = 1#1) (h1 : IntOp.cmpi .slt a 1024#32 = 1#1) :
    a.toNat < 1024 := by
  rw [IntOp.cmpi_slt] at h1
  rw [IntOp.cmpi_sge] at h0
  have e1 : (1024#32 : BitVec 32).toInt = 1024 := by decide
  have e0 : (0#32 : BitVec 32).toInt = 0 := by decide
  rw [e1] at h1
  rw [e0] at h0
  have := BitVec.toInt_eq_toNat_cond a
  split at this <;> omega

/-- Signed and unsigned readings agree on small words. -/
theorem toInt_small {a : BitVec 32} (h : a.toNat < 1024) : a.toInt = (a.toNat : Int) := by
  rw [BitVec.toInt_eq_toNat_cond, if_pos (by omega)]

/-- The precondition gives the three facts of the labels. -/
theorem good_of_pre (x0 : FVec Ideal Pre_sorted_short_bags.S160000x256 .f32) (x1 : Words)
    (x2 : FVec Ideal Pre_sorted_short_bags.S256x128 .f32) (x3 : FVec Ideal Pre_sorted_short_bags.S128 .f32)
    (x4 : FVec Ideal Pre_sorted_short_bags.S128x1 .f32) (x5 : FVec Ideal Pre_sorted_short_bags.S1 .f32)
    (h : Pre_sorted_short_bags.fn (F := Ideal) x0 x1 x2 x3 x4 x5 = fun _ => 1#1) : Good x1 := by
  have h0 := congrFun h ix0
  unfold Pre_sorted_short_bags.fn at h0
  dsimp only at h0
  obtain ⟨h12, h3⟩ := and_one h0
  obtain ⟨h1, h2⟩ := and_one h12
  haveI : Subsingleton Pre_sorted_short_bags.S_.Idx := ⟨fun a b => funext fun i => i.elim0⟩
  have a1 := Host.reduce_andi_all _ _ _ _ _ h1
  have a2 := Host.reduce_andi_all _ _ _ _ _ h2
  have a3 := Host.reduce_andi_all _ _ _ _ _ h3
  have small : ∀ n : Fin 160000, (x1 (ix1 n)).toNat < 1024 := fun n => by
    obtain ⟨p, q⟩ := and_one (a1 (ix1 n))
    exact small_of_signed p q
  have step : ∀ i, i + 1 < 160000 → label x1 i ≤ label x1 (i + 1) := fun i hi => by
    have p : IntOp.cmpi .sge
        (extractStridedSlice Pre_sorted_short_bags.S159999 ![1] x1 Pre_sorted_short_bags.Gen.slices_S160000_S159999_1 (ix1 (⟨i, by omega⟩ : Fin 159999)))
        (extractStridedSlice Pre_sorted_short_bags.S159999 ![0] x1 Pre_sorted_short_bags.Gen.slices_S160000_S159999_0 (ix1 (⟨i, by omega⟩ : Fin 159999))) = 1#1 :=
      a2 (ix1 (⟨i, by omega⟩ : Fin 159999))
    rw [extractStridedSlice_apply _ _ _ _ (ix1 (⟨i + 1, hi⟩ : Fin 160000)) (fun a => match a with
      | ⟨0, _⟩ => by show i + 1 = 1 + i; omega), extractStridedSlice_apply _ _ _ _ (ix1 (⟨i, by omega⟩ : Fin 160000)) (fun a => match a with
      | ⟨0, _⟩ => by show i = 0 + i; omega), IntOp.cmpi_sge, toInt_small (small _), toInt_small (small _)] at p
    rw [label_of_lt x1 i (by omega), label_of_lt x1 (i + 1) hi]
    exact_mod_cast p
  refine ⟨fun n => ?_, ?_, fun i hi => ?_⟩
  · rw [label_of_lt x1 _ n.isLt]; exact small n
  · intro i j hij
    induction j, hij using Nat.le_induction with
    | base => intro _; exact le_refl _
    | succ j _ ih => intro hj; exact (ih (by omega)).trans (step j hj)
  · have p : IntOp.cmpi .sgt
        (extractStridedSlice Pre_sorted_short_bags.S159488 ![512] x1 Pre_sorted_short_bags.Gen.slices_S160000_S159488_512 (ix1 (⟨i, by omega⟩ : Fin 159488)))
        (extractStridedSlice Pre_sorted_short_bags.S159488 ![0] x1 Pre_sorted_short_bags.Gen.slices_S160000_S159488_0 (ix1 (⟨i, by omega⟩ : Fin 159488))) = 1#1 :=
      a3 (ix1 (⟨i, by omega⟩ : Fin 159488))
    rw [extractStridedSlice_apply _ _ _ _ (ix1 (⟨i + 512, hi⟩ : Fin 160000)) (fun a => match a with
      | ⟨0, _⟩ => by show i + 512 = 512 + i; omega), extractStridedSlice_apply _ _ _ _ (ix1 (⟨i, by omega⟩ : Fin 160000)) (fun a => match a with
      | ⟨0, _⟩ => by show i = 0 + i; omega), IntOp.cmpi_sgt, toInt_small (small _), toInt_small (small _)] at p
    rw [label_of_lt x1 i (by omega), label_of_lt x1 (i + 512) hi]
    exact_mod_cast p

end Cert.Labels
-- ==== Proof.Fold.lean ====
module

public import proofs.«01_k».proof.Proof.KernelStep
public import proofs.«01_k».proof.Proof.Block
public import proofs.«01_k».proof.Proof.Blocks
public import proofs.«01_k».proof.Proof.Labels

@[expose] public section

/-!
# What the kernel leaves

The two accumulators after each grid point as sums over the rows seen so far; the result array as the quotient of the sums
over all rows.
-/

set_option maxRecDepth 16384

noncomputable section

namespace Cert.KernelIdeal.Fold

open Cert.KernelIdeal Cert.KernelIdeal.Gen Cert.KernelIdeal.Value Cert.KernelIdeal.Blocks Idealize.ShloMosaic.TcCoe
  Idealize.SL.Sem Idealize.ShloMosaic.ValueIdx Cert.Labels
open Idealize.ShloMosaic hiding ix1 ix2 ix3 eq_ix1

/-! ## Sums over rows, block by block -/

/-- A function of rows as a function of any number. -/
def ext (f : Fin 160000 → EReal) (n : ℕ) : EReal := if h : n < 160000 then f ⟨n, h⟩ else 0

/-- A sum over 100 blocks of 1600 rows is the sum over the rows. -/
theorem sum_blocks (f : Fin 160000 → EReal) :
    ∑ t ∈ Finset.range 100, ∑ n : Fin 1600, ext f (t * 1600 + n.val) = ∑ i : Fin 160000, f i := by
  rw [Finset.sum_range (fun t => ∑ n : Fin 1600, ext f (t * 1600 + n.val)), ← Fintype.sum_prod_type']
  refine Fintype.sum_equiv (finProdFinEquiv (m := 100) (n := 1600)) _ f fun p => ?_
  have hp := p.1.isLt
  have hq := p.2.isLt
  unfold ext
  rw [dif_pos (by omega)]
  refine congrArg f (Fin.ext ?_)
  show p.1.val * 1600 + p.2.val = p.2.val + 1600 * p.1.val
  omega

/-- A block's row. -/
theorem ext_row (f : Fin 160000 → EReal) (t : Fin cfg0.N) (n : Fin 1600) : ext f (t.val * 1600 + n.val) = f (row t n) :=
  dif_pos (row t n).isLt

variable (m : (ℓ : Loc nD τ sig) → Buf (Elt Ideal) ℓ) (c : Dev nD)

/-- The rows. -/
abbrev X0 : (⟨2, ![160000, 256]⟩ : Shape).Idx → EReal := m ((c : Thread nD τ).loc main_arg0)
/-- The labels. -/
abbrev X1 : Words := m ((c : Thread nD τ).loc main_arg1)
/-- The hidden layer's weights. -/
abbrev X2 : (⟨2, ![256, 128]⟩ : Shape).Idx → EReal := m ((c : Thread nD τ).loc main_arg2)
/-- The hidden layer's offsets. -/
abbrev X3 : (⟨1, ![128]⟩ : Shape).Idx → EReal := m ((c : Thread nD τ).loc main_arg3)
/-- The output layer's weights. -/
abbrev X4 : (⟨2, ![128, 1]⟩ : Shape).Idx → EReal := m ((c : Thread nD τ).loc main_arg4)
/-- The output layer's offset. -/
abbrev X5 : (⟨1, ![1]⟩ : Shape).Idx → EReal := m ((c : Thread nD τ).loc main_arg5)

/-- Row `n`'s weight. -/
def weight (n : Fin 160000) : EReal := Ideal.exp (Spec.rowScore (X0 m c) (X2 m c) (X3 m c) (X4 m c) (X5 m c) n)
/-- What row `n` adds to label `b`'s denominator. -/
def denTerm (b : ℕ) (n : Fin 160000) : EReal := if label (X1 m c) n.val = b then weight m c n else 0
/-- What row `n` adds to label `b`'s numerator in column `d`. -/
def numTerm (b : ℕ) (d : Fin 256) (n : Fin 160000) : EReal :=
  if label (X1 m c) n.val = b then X0 m c (ix2 n d) * weight m c n else 0

/-- A row's word is `b` exactly when its label is. -/
theorem word_iff (x : Words) (n : Fin 160000) (b : Fin 1024) : x (ix1 n) = BitVec.ofNat 32 b.val ↔ label x n.val = b.val := by
  have hb := b.isLt
  rw [label_of_lt x n.val n.isLt, ← BitVec.toNat_inj, BitVec.toNat_ofNat, Nat.mod_eq_of_lt (by omega)]

/-- The weight that block `t` computes for its row `n`. -/
theorem weight_at (t : Fin cfg0.N) (n : Fin 1600) :
    k0_pay6 (F := Ideal) (iblk m c 1 t) (iblk m c 2 t) (iblk m c 3 t) (iblk m c 4 t) (iblk m c 5 t) (ix2 n (0 : Fin 1))
      = weight m c (row t n) := by
  rw [Block.weight_at]
  unfold weight Spec.rowScore
  have e0 : (fun k : Fin 256 => (iblk m c 1 t : Vec Ideal S1600x256 .f32) (ix2 n k)) = fun k => X0 m c (ix2 (row t n) k) :=
    funext fun k => rows_at m c t n k
  have e3 : (fun i : S128.Idx => (iblk m c 3 t : Vec Ideal S1x128 .f32) (ix2 (0 : Fin 1) (i 0))) = X3 m c :=
    funext fun i => (b1_at m c t (i 0)).trans (congrArg (X3 m c) (eq_ix1 i).symm)
  have e4 : (fun i : S128x1.Idx => (iblk m c 4 t : Vec Ideal S1x128 .f32) (ix2 (0 : Fin 1) (i 0))) = X4 m c :=
    funext fun i => (W2_at m c t (i 0)).trans (congrArg (X4 m c) (by
      funext a; match a with | ⟨0, _⟩ => rfl | ⟨1, _⟩ => exact Subsingleton.elim (α := Fin 1) _ _))
  have e5 : (fun _ : S1.Idx => (iblk m c 5 t : Vec Ideal S1x1 .f32) (ix2 (0 : Fin 1) (0 : Fin 1))) = X5 m c :=
    funext fun i => (b2_at m c t).trans (congrArg (X5 m c) (by
      funext a; match a with | ⟨0, _⟩ => exact Subsingleton.elim (α := Fin 1) _ _))
  exact congrArg Ideal.exp (by rw [e0, W1_at, e3, e4, e5])

/-- Block `t`'s one-hot entry. -/
theorem hot_at (t : Fin cfg0.N) (n : Fin 1600) (b : Fin 1024) :
    k0_pay8 (F := Ideal) (iblk m c 0 t) (ix2 n b) = if label (X1 m c) (row t n).val = b.val then (1 : EReal) else 0 := by
  rw [Block.hot_at, labels_at]
  exact if_congr (word_iff (X1 m c) (row t n) b) rfl rfl

/-- Block `t` adds its rows' terms to the denominator. -/
theorem denStep_at (t : Fin cfg0.N) (a : Vec Ideal S1024x1 .f32) (b : Fin 1024) :
    denStep (F := Ideal) m c t a (ix2 b (0 : Fin 1))
      = a (ix2 b (0 : Fin 1)) + ∑ n : Fin 1600, ext (denTerm m c b.val) (t.val * 1600 + n.val) := by
  unfold denStep
  rw [Block.den_at]
  refine congrArg (a (ix2 b (0 : Fin 1)) + ·) (Finset.sum_congr rfl fun n _ => ?_)
  rw [hot_at, weight_at, ext_row]
  unfold denTerm
  split
  · rw [one_mul]
  · rw [zero_mul]

/-- Block `t` adds its rows' terms to the numerator. -/
theorem numStep_at (t : Fin cfg0.N) (a : Vec Ideal S1024x256 .f32) (b : Fin 1024) (d : Fin 256) :
    numStep (F := Ideal) m c t a (ix2 b d)
      = a (ix2 b d) + ∑ n : Fin 1600, ext (numTerm m c b.val d) (t.val * 1600 + n.val) := by
  unfold numStep
  rw [Block.num_at]
  refine congrArg (a (ix2 b d) + ·) (Finset.sum_congr rfl fun n _ => ?_)
  rw [Block.hot_narrow_at, hot_at, Block.weighted_at, weight_at, ext_row, rows_at]
  unfold numTerm
  split
  · rw [one_mul]
  · rw [zero_mul]

/-! ## The fold over the grid -/

/-- Before the last point the accumulators hold the sums over the blocks seen so far. -/
theorem acc_at (b : Fin 1024) (d : Fin 256) : ∀ (j : ℕ) (_ : j < 99) (h : 0 + j < cfg0.N),
    (Pipeline.accAt (fun n h => stAt0 (F := Ideal) m c n h junk0) (stAt0 m c) 0 j h).2.1 (ix2 b d)
        = ∑ t ∈ Finset.range (j + 1), ∑ n : Fin 1600, ext (numTerm m c b.val d) (t * 1600 + n.val)
      ∧ (Pipeline.accAt (fun n h => stAt0 (F := Ideal) m c n h junk0) (stAt0 m c) 0 j h).2.2 (ix2 b (0 : Fin 1))
        = ∑ t ∈ Finset.range (j + 1), ∑ n : Fin 1600, ext (denTerm m c b.val) (t * 1600 + n.val)
  | 0, _, h => by
    rw [Pipeline.accAt_zero, step_A m c ⟨0, h⟩ junk0 rfl (show ¬(0 % 100 = 99) by decide)]
    refine ⟨?_, ?_⟩
    · show numStep m c ⟨0, h⟩ (k0_pay4 (F := Ideal)) (ix2 b d) = _
      rw [numStep_at, Block.num_zero, zero_add, Finset.sum_range_one]
    · show denStep m c ⟨0, h⟩ (k0_pay5 (F := Ideal)) (ix2 b (0 : Fin 1)) = _
      rw [denStep_at, Block.den_zero, zero_add, Finset.sum_range_one]
  | j + 1, hj, h => by
    obtain ⟨ih1, ih2⟩ := acc_at b d j (by omega) (Nat.lt_of_succ_lt h)
    have e : 0 + (j + 1) = j + 1 := Nat.zero_add _
    rw [Pipeline.accAt_succ, step_B m c ⟨0 + (j + 1), h⟩ _ (by show ¬((0 + (j + 1)) % 100 = 0); omega)
      (by show ¬((0 + (j + 1)) % 100 = 99); omega)]
    refine ⟨?_, ?_⟩
    · show numStep m c ⟨0 + (j + 1), h⟩ _ (ix2 b d) = _
      rw [numStep_at, ih1, Finset.sum_range_succ _ (j + 1)]
      show _ + ∑ n : Fin 1600, ext (numTerm m c b.val d) ((0 + (j + 1)) * 1600 + n.val) = _
      rw [e]
    · show denStep m c ⟨0 + (j + 1), h⟩ _ (ix2 b (0 : Fin 1)) = _
      rw [denStep_at, ih2, Finset.sum_range_succ _ (j + 1)]
      show _ + ∑ n : Fin 1600, ext (denTerm m c b.val) ((0 + (j + 1)) * 1600 + n.val) = _
      rw [e]

/-- The last point's result, from the sums over the blocks before it. -/
theorem last_at (b : Fin 1024) (d : Fin 256) (t : Fin cfg0.N) (ht : t.val = 99)
    (acc : Vec Ideal S1024x256 .f32 × Vec Ideal S1024x256 .f32 × Vec Ideal S1024x1 .f32)
    (h1 : acc.2.1 (ix2 b d) = ∑ t ∈ Finset.range 99, ∑ n : Fin 1600, ext (numTerm m c b.val d) (t * 1600 + n.val))
    (h2 : acc.2.2 (ix2 b (0 : Fin 1)) = ∑ t ∈ Finset.range 99, ∑ n : Fin 1600, ext (denTerm m c b.val) (t * 1600 + n.val)) :
    (stAt0 (F := Ideal) m c t.val t.isLt acc).1 (ix2 b d)
      = Spec.pool (label (X1 m c)) (X0 m c) (X2 m c) (X3 m c) (X4 m c) (X5 m c) b.val d := by
  have en : ∑ t ∈ Finset.range 99, ∑ n : Fin 1600, ext (numTerm m c b.val d) (t * 1600 + n.val)
      + ∑ n : Fin 1600, ext (numTerm m c b.val d) (99 * 1600 + n.val)
      = Spec.num (label (X1 m c)) (X0 m c) (X2 m c) (X3 m c) (X4 m c) (X5 m c) b.val d :=
    (Finset.sum_range_succ _ 99).symm.trans (sum_blocks (numTerm m c b.val d))
  have ed : ∑ t ∈ Finset.range 99, ∑ n : Fin 1600, ext (denTerm m c b.val) (t * 1600 + n.val)
      + ∑ n : Fin 1600, ext (denTerm m c b.val) (99 * 1600 + n.val)
      = Spec.den (label (X1 m c)) (X0 m c) (X2 m c) (X3 m c) (X4 m c) (X5 m c) b.val :=
    (Finset.sum_range_succ _ 99).symm.trans (sum_blocks (denTerm m c b.val))
  rw [step_C m c t acc (by omega) (by omega), Block.quotient_at, denStep_at, numStep_at, h1, h2, ht, en, ed]
  unfold Spec.pool
  with_reducible rfl

/-- The kernel's result at label `b`, column `d`. -/
theorem result_at (b : Fin 1024) (d : Fin 256) :
    G6 (F := Ideal) m c (ix2 b d)
      = Spec.pool (label (X1 m c)) (X0 m c) (X2 m c) (X3 m c) (X4 m c) (X5 m c) b.val d := by
  have g : ∀ (j : ℕ) (h : 0 + j < cfg0.N), j = 98 + 1 →
      (Pipeline.accAt (fun n h => stAt0 (F := Ideal) m c n h junk0) (stAt0 m c) 0 j h).1 (ix2 b d)
        = Spec.pool (label (X1 m c)) (X0 m c) (X2 m c) (X3 m c) (X4 m c) (X5 m c) b.val d := by
    intro j h e
    subst e
    obtain ⟨h1, h2⟩ := acc_at m c b d 98 (by decide) (Nat.lt_of_succ_lt h)
    rw [Pipeline.accAt_succ]
    exact last_at m c b d ⟨0 + (98 + 1), h⟩ rfl _ h1 h2
  rw [G6_last]
  exact g 99 _ rfl

end Cert.KernelIdeal.Fold
-- ==== Proof.Segments.lean ====
module

public import Idealize.ShloMosaic.Lib.Routing.Count
public import Idealize.ShloMosaic.PureOps.Ideal.Laws

@[expose] public section

/-!
# Sorted labels and their segments

`g n` is the label of row `n`, for the `N` rows; the labels do not decrease. Label `b`'s rows are then a run of
consecutive rows: they begin at `off g N b`, the number of rows of a smaller label, and there are `cnt g N b` of them.
-/

namespace Cert.Segments

variable {N : ℕ} {g : ℕ → ℕ}

/-- How many of the first `N` rows have label `b`. -/
def cnt (g : ℕ → ℕ) (N b : ℕ) : ℕ := Nat.count (fun i => g i = b) N

/-- How many of the first `N` rows have a label below `b`. -/
def off (g : ℕ → ℕ) (N b : ℕ) : ℕ := Nat.count (fun i => g i < b) N

/-- Rows below `b + 1` are the rows below `b` and the rows of label `b`. -/
theorem off_succ (b : ℕ) : off g N (b + 1) = off g N b + cnt g N b := by
  unfold off cnt
  induction N with
  | zero => simp
  | succ n ih =>
    simp only [Nat.count_succ, ih]
    by_cases h1 : g n < b
    · rw [if_pos h1, if_pos (show g n < b + 1 by omega), if_neg (show ¬ g n = b by omega)]; omega
    · by_cases h3 : g n = b
      · rw [if_neg h1, if_pos (show g n < b + 1 by omega), if_pos h3]; omega
      · rw [if_neg h1, if_neg (show ¬ g n < b + 1 by omega), if_neg h3]; omega

/-- No row's label is below zero. -/
theorem off_zero : off g N 0 = 0 := by
  unfold off; simp [Nat.count_eq_card_filter_range]

/-- The offset of a label is the sum of the counts of the labels before it. -/
theorem sum_cnt (b : ℕ) : ((List.range b).map (cnt g N)).sum = off g N b := by
  induction b with
  | zero => simp [off_zero]
  | succ b ih => rw [List.range_succ, List.map_append, List.sum_append, ih, off_succ]; simp

/-- No offset is past the end. -/
theorem off_le (b : ℕ) : off g N b ≤ N := Nat.count_le _

/-- A label has at most as many rows as there are. -/
theorem cnt_le (b : ℕ) : cnt g N b ≤ N := Nat.count_le _

/-- Among sorted labels, a row's label is below `b` exactly when the row stands before `b`'s offset. -/
theorem lt_off_iff (hs : ∀ i j, i ≤ j → j < N → g i ≤ g j) {n : ℕ} (hn : n < N) (b : ℕ) : g n < b ↔ n < off g N b := by
  unfold off
  constructor
  · intro h
    have h1 : Nat.count (fun i => g i < b) (n + 1) = n + 1 :=
      Nat.count_iff_forall.mpr fun a ha => lt_of_le_of_lt (hs a n (by omega) hn) h
    have h2 := Nat.count_monotone (fun i => g i < b) (show n + 1 ≤ N from hn)
    omega
  · intro h
    by_contra hc
    have h0 : Nat.count (fun i => g (n + i) < b) (N - n) = 0 :=
      Nat.count_iff_forall_not.mpr fun k hk hq => hc (lt_of_le_of_lt (hs n (n + k) (by omega) (by omega)) hq)
    have h1 : Nat.count (fun i => g i < b) (n + (N - n)) = Nat.count (fun i => g i < b) n + 0 := by
      rw [Nat.count_add, h0]
    rw [show n + (N - n) = N by omega] at h1
    have h2 : Nat.count (fun i => g i < b) n ≤ n := Nat.count_le _
    omega

/-- Among sorted labels, row `n` has label `b` exactly when it stands in `b`'s run. -/
theorem eq_iff (hs : ∀ i j, i ≤ j → j < N → g i ≤ g j) {n : ℕ} (hn : n < N) (b : ℕ) :
    g n = b ↔ off g N b ≤ n ∧ n < off g N b + cnt g N b := by
  have h1 := lt_off_iff hs hn b
  have h2 := lt_off_iff hs hn (b + 1)
  rw [off_succ] at h2
  omega

/-- A run ends no later than the rows do. -/
theorem off_add_cnt_le (b : ℕ) : off g N b + cnt g N b ≤ N := by
  rw [← off_succ]; exact off_le _

/-- If a row's label is below the label of the row `L` further on, no label has more than `L` rows. -/
theorem cnt_le_of_short (hs : ∀ i j, i ≤ j → j < N → g i ≤ g j) {L : ℕ} (hL : ∀ i, i + L < N → g i < g (i + L)) (b : ℕ) :
    cnt g N b ≤ L := by
  by_contra hc
  have he := off_add_cnt_le (g := g) (N := N) b
  have hb : off g N b + L < N := by omega
  have h1 := (eq_iff hs (show off g N b < N by omega) b).2 ⟨le_refl _, by omega⟩
  have h2 := (eq_iff hs hb b).2 ⟨by omega, by omega⟩
  have := hL _ hb
  omega

/-- A sum over the places of `b`'s run is the sum over all rows, those of another label left out. -/
theorem sum_run {M : Type*} [AddCommMonoid M] (hs : ∀ i j, i ≤ j → j < N → g i ≤ g j) (L : ℕ) (b : ℕ)
    (hL : cnt g N b ≤ L) (f : ℕ → M) :
    (∑ l : Fin L, if l.val < cnt g N b then f (off g N b + l.val) else 0) = ∑ n : Fin N, if g n.val = b then f n.val else 0 := by
  rw [Fin.sum_univ_eq_sum_range (fun l => if l < cnt g N b then f (off g N b + l) else 0) L,
    Fin.sum_univ_eq_sum_range (fun n => if g n = b then f n else 0) N, ← Finset.sum_filter, ← Finset.sum_filter]
  refine Finset.sum_bij (fun l _ => off g N b + l) ?_ ?_ ?_ ?_
  · intro l hl
    simp only [Finset.mem_filter, Finset.mem_range] at hl ⊢
    have he := off_add_cnt_le (g := g) (N := N) b
    have hn : off g N b + l < N := by omega
    exact ⟨hn, (eq_iff hs hn b).2 ⟨by omega, by omega⟩⟩
  · intro a _ a' _ h
    omega
  · intro n hn
    simp only [Finset.mem_filter, Finset.mem_range] at hn
    have h := (eq_iff hs hn.1 b).1 hn.2
    refine ⟨n - off g N b, ?_, ?_⟩
    · simp only [Finset.mem_filter, Finset.mem_range]; omega
    · omega
  · intro l _; rfl

end Cert.Segments
-- ==== Proof.Scatters.lean ====
module

public import proofs.«01_k».proof.Proof.Gen.ReferenceIdeal.Read
public import Idealize.ShloMosaic.Lib.Routing.OpsPair
public import Idealize.ShloMosaic.Lib.Routing.OpsSet
public import proofs.«01_k».proof.Proof.Segments

@[expose] public section

/-!
# The reference's two scatters

Where an update of each lands, what the counting scatter leaves at an entry, and what the placing one leaves.
-/

set_option maxRecDepth 16384

noncomputable section

namespace Cert.ReferenceIdeal.Scatters

open Cert.ReferenceIdeal Cert.ReferenceIdeal.Gen Idealize.ShloMosaic Idealize.ShloMosaic.ValueIdx Idealize.ShloMosaic.Routing

/-- Update `n` of the counting scatter lands at the entry its index word names, read signed. -/
theorem count_lands (idx : IVec S160000x1 32) (n : Fin 160000) (b : Fin 1024) :
    scatter_S1024_S160000x1_S160000_n_0_0_1.resultIdx? (ix1 n) idx = some (ix1 b)
      ↔ (idx (ix2 n (0 : Fin 1))).toInt = (b.val : Int) := by
  rw [resultIdx?_ix1]
  have hw : scatter_S1024_S160000x1_S160000_n_0_0_1.window (ix1 n) 0 = 0 := rfl
  have hs : scatter_S1024_S160000x1_S160000_n_0_0_1.start (ix1 n) idx 0 = (idx (ix2 n (0 : Fin 1))).toInt := by
    unfold ScatterDims.start
    rw [dif_pos (by decide)]
    refine congrArg (fun q => (idx q).toInt) ?_
    funext a
    match a with
    | ⟨0, _⟩ => rfl
    | ⟨1, _⟩ => rfl
  rw [hw, hs]
  simp

/-- Element `(n, d)` of the placing scatter's updates lands at the patient and place its two index words name, in column `d`. -/
theorem place_lands (idx : IVec S160000x2 32) (n : Fin 160000) (e : Fin 256) (b : Fin 1024) (l : Fin 512) (d : Fin 256) :
    scatter_S1024x512x256_S160000x2_S160000x256_1_01_01_1.resultIdx? (ix2 n e) idx = some (ix3 b l d)
      ↔ (idx (ix2 n (0 : Fin 2))).toInt = (b.val : Int) ∧ (idx (ix2 n (1 : Fin 2))).toInt = (l.val : Int) ∧ e = d := by
  rw [resultIdx?_eq_some]
  have hw0 : scatter_S1024x512x256_S160000x2_S160000x256_1_01_01_1.window (ix2 n e) 0 = 0 := rfl
  have hw1 : scatter_S1024x512x256_S160000x2_S160000x256_1_01_01_1.window (ix2 n e) 1 = 0 := rfl
  have hw2 : scatter_S1024x512x256_S160000x2_S160000x256_1_01_01_1.window (ix2 n e) 2 = e.val := rfl
  have hs0 : scatter_S1024x512x256_S160000x2_S160000x256_1_01_01_1.start (ix2 n e) idx 0 = (idx (ix2 n (0 : Fin 2))).toInt := by
    unfold ScatterDims.start
    rw [dif_pos (by decide)]
    refine congrArg (fun q => (idx q).toInt) ?_
    funext a
    match a with
    | ⟨0, _⟩ => rfl
    | ⟨1, _⟩ => rfl
  have hs1 : scatter_S1024x512x256_S160000x2_S160000x256_1_01_01_1.start (ix2 n e) idx 1 = (idx (ix2 n (1 : Fin 2))).toInt := by
    unfold ScatterDims.start
    rw [dif_pos (by decide)]
    refine congrArg (fun q => (idx q).toInt) ?_
    funext a
    match a with
    | ⟨0, _⟩ => rfl
    | ⟨1, _⟩ => rfl
  have hs2 : scatter_S1024x512x256_S160000x2_S160000x256_1_01_01_1.start (ix2 n e) idx 2 = 0 := by
    unfold ScatterDims.start
    rw [dif_neg (by decide)]
  constructor
  · intro h
    have h0 := h 0
    have h1 := h 1
    have h2 := h 2
    rw [hw0, hs0] at h0
    rw [hw1, hs1] at h1
    rw [hw2, hs2] at h2
    refine ⟨by simpa using h0, by simpa using h1, Fin.ext ?_⟩
    have h3 : ((e.val : Int)) = (d.val : Int) := by simpa using h2
    exact_mod_cast h3
  · rintro ⟨h0, h1, rfl⟩ a
    match a with
    | ⟨0, _⟩ => exact (congrArg₂ (· + ·) hs0 (congrArg Nat.cast hw0)).trans (by simpa using h0)
    | ⟨1, _⟩ => exact (congrArg₂ (· + ·) hs1 (congrArg Nat.cast hw1)).trans (by simpa using h1)
    | ⟨2, _⟩ => exact (congrArg₂ (· + ·) hs2 (congrArg Nat.cast hw2)).trans (by simp)

/-- The counting scatter of ones into zeros leaves at an entry the number of rows whose label it is. -/
theorem count_scatter (x0 : IVec S1024 32) (hx0 : ∀ i, x0 i = 0#32) (idx : IVec S160000x1 32) (upd : IVec S160000 32)
    (hupd : ∀ i, upd i = 1#32) (g : ℕ → ℕ) (hg : ∀ n : Fin 160000, (idx (ix2 n (0 : Fin 1))).toInt = (g n.val : Int)) (b : Fin 1024) :
    Host.scatter scatter_S1024_S160000x1_S160000_n_0_0_1 IntOp.addi x0 idx upd (ix1 b)
      = BitVec.ofNat 32 (Segments.cnt g 160000 b.val) := by
  rw [scatter_at]
  have key : ∀ (l : List (Fin (S160000).numel)) (z : ℕ) (a : BitVec 32), a = BitVec.ofNat 32 z →
      l.foldl (fun a n => if scatter_S1024_S160000x1_S160000_n_0_0_1.resultIdx? (S160000.rowMajor.symm n) idx = some (ix1 b)
        then IntOp.addi a (upd (S160000.rowMajor.symm n)) else a) a
        = BitVec.ofNat 32 (z + l.countP fun n => decide (g n.val = b.val)) := by
    intro l
    induction l with
    | nil => intro z a h; simpa using h
    | cons n l ih =>
      intro z a h
      rw [List.foldl_cons, List.countP_cons]
      have hl : scatter_S1024_S160000x1_S160000_n_0_0_1.resultIdx? (S160000.rowMajor.symm n) idx = some (ix1 b)
          ↔ g n.val = b.val := by
        rw [show S160000.rowMajor.symm n = ix1 (n.cast (numel1 160000)) from symm1 n, count_lands, hg]
        simp
      by_cases hh : g n.val = b.val
      · rw [if_pos (hl.2 hh), ih (z + 1) _ (by rw [h, hupd]; exact (BitVec.ofNat_add z 1).symm)]
        simp only [hh, decide_true, if_true]
        congr 1
        omega
      · rw [if_neg (fun q => hh (hl.1 q)), ih z _ h]
        simp only [hh, decide_false]
        simp
  rw [key _ 0 _ (hx0 _), Nat.zero_add, countP_finRange _ (fun i => g i = b.val), numel1]
  rfl

end Cert.ReferenceIdeal.Scatters
-- ==== Proof.Dense.lean ====
module

public import proofs.«01_k».proof.Proof.Scatters
public import proofs.«01_k».proof.Proof.Labels
public import Idealize.ShloMosaic.Lib.Routing.OpsSearch

@[expose] public section

/-!
# The reference's dense array

The counts, the offsets and each row's place among its patient's rows; then the dense array: place `l` of patient `b`
holds row `off b + l` if the patient has that many rows, and zeros if not.
-/

set_option maxRecDepth 16384

noncomputable section

namespace Cert.ReferenceIdeal.Dense

open Cert.ReferenceIdeal Cert.ReferenceIdeal.Gen Cert.ReferenceIdeal.Read Idealize.ShloMosaic Idealize.ShloMosaic.ValueIdx
  Idealize.ShloMosaic.Routing Cert.Labels Cert.Segments

variable {x1 : Words}

/-- The number of patient `b`'s rows. -/
abbrev rows (x1 : Words) (b : ℕ) : ℕ := cnt (label x1) 160000 b
/-- The first of patient `b`'s rows. -/
abbrev first (x1 : Words) (b : ℕ) : ℕ := off (label x1) 160000 b

/-- A word that is nonnegative, read signed, is left by jnp's wrap of negative indices. -/
theorem wrap_small {x a : BitVec 32} (h : x.toNat < 2 ^ 31) : Scalar.select (IntOp.cmpi .slt x 0#32) a x = x := wrap_of_lt x a h

/-- The counting scatter's index word at row `n` is the row's label. -/
theorem count_index (h : Good x1) (n : Fin 160000) : val_main_v9 (F := Ideal) x1 (ix2 n (0 : Fin 1)) = x1 (ix1 n) := by
  have hs := h.inside n
  rw [label_of_lt x1 _ n.isLt] at hs
  have hs' : (x1 (ix1 n)).toNat < 1024 := hs
  have e : idx_main_v9 (ix2 n (0 : Fin 1)) = ix1 n := by funext a; match a with | ⟨0, _⟩ => rfl
  have e3 : val_main_v3 (F := Ideal) x1 (ix1 n) = x1 (ix1 n) := by
    rw [val_main_v3_apply, val_main_call0_v1_apply, val_main_call0_v0_apply, val_main_c_0_apply]
    have e0 : (0#32 : BitVec 32).toInt = 0 := by decide
    have e1 := toInt_small hs'
    unfold IntOp.maxsi
    by_cases hc : BitVec.slt (x1 (ix1 n)) 0#32
    · rw [BitVec.slt_iff_toInt_lt, e0, e1] at hc; omega
    · simp_all
  rw [val_main_v9_apply, e, val_main_v8_apply, val_main_v5_apply, e3, val_main_v4_apply, val_main_c_1_apply]
  exact wrap_small (by omega)

/-- The counts. -/
theorem counts (h : Good x1) (b : Fin 1024) : val_main_v11 (F := Ideal) x1 (ix1 b) = BitVec.ofNat 32 (rows x1 b.val) := by
  refine Scatters.count_scatter _ (fun i => ?_) _ _ (fun i => ?_) _ (fun n => ?_) b
  · rw [val_main_v2_apply, val_main_c_apply]
  · rw [val_main_v10_apply, val_main_c_3_apply]
  · rw [count_index h, h.toInt]

/-- The running sums of the counts: patient `b`'s is the offset of the next patient. -/
theorem running (h : Good x1) (b : Fin 1024) : val_main_v13 (F := Ideal) x1 (ix1 b) = BitVec.ofNat 32 (first x1 (b.val + 1)) := by
  have e := cumsum1 (N := 1024) (Nm1 := 1023) rfl (val_main_v11 (F := Ideal) x1) (rows x1) (fun i => counts h i)
    (val_main_call1_call0_v0 (F := Ideal)) (by rw [val_main_call1_call0_v0_apply, val_main_call1_call0_c_apply])
    reduceWindows_S1024_S1024_w1024s1p1023_0 h_S_ b
  rw [show ((List.range (b.val + 1)).map (rows x1)).sum = first x1 (b.val + 1) from sum_cnt _] at e
  exact e

/-- The offsets. -/
theorem offsets (h : Good x1) (b : Fin 1024) : val_main_v15 (F := Ideal) x1 (ix1 b) = BitVec.ofNat 32 (first x1 b.val) := by
  unfold val_main_v15
  by_cases hb : b.val = 0
  · rw [concatenate_pair_apply_left (s₁ := S1) (s₂ := S1023) 0 _ _ _ (ix1 b) rfl (ix1 (0 : Fin 1)) (fun a => match a with
      | ⟨0, _⟩ => by show 0 = b.val; omega), val_main_v12_apply, val_main_c_4_apply, hb]
    rw [show first x1 0 = 0 from off_zero]
  · rw [concatenate_pair_apply_right (s₁ := S1) (s₂ := S1023) 0 _ _ _ (ix1 b) rfl rfl (ix1 (⟨b.val - 1, by omega⟩ : Fin 1023)) (fun a => match a with
      | ⟨0, _⟩ => by simp) (by show b.val - 1 + 1 = b.val; omega), val_main_v14_apply]
    have e : idx_main_v14 (ix1 (⟨b.val - 1, by omega⟩ : Fin 1023)) = ix1 (⟨b.val - 1, by omega⟩ : Fin 1024) := by
      funext a; match a with | ⟨0, _⟩ => rfl
    rw [e, running h]
    exact congrArg (fun q => BitVec.ofNat 32 (first x1 q)) (by show b.val - 1 + 1 = b.val; omega)

/-- The gathered offset of row `n`'s patient. -/
theorem row_offset (h : Good x1) (n : Fin 160000) :
    val_main_v23 (F := Ideal) x1 (ix1 n) = BitVec.ofNat 32 (first x1 (label x1 n.val)) := by
  have hs := h.inside n
  have e : idx_main_v22 (ix2 n (0 : Fin 1)) = ix1 n := by funext a; match a with | ⟨0, _⟩ => rfl
  have hi : val_main_v22 (F := Ideal) x1 (ix2 n (0 : Fin 1)) = BitVec.ofNat 32 (label x1 n.val) := by
    rw [val_main_v22_apply, e, val_main_v21_apply, val_main_v18_apply, val_main_v17_apply, val_main_c_5_apply,
      wrap_small (by rw [label_of_lt x1 _ n.isLt] at hs; exact lt_trans hs (by norm_num)), ← word_eq]
  unfold val_main_v23
  rw [take_ap gather_S1024_S160000x1_S160000_n_0_n_n_0_1_1 rfl rfl rfl rfl _ _ n hs (by omega) hi, offsets h]

/-- Row `n` stands `n - first` places into its patient's rows. -/
theorem place (h : Good x1) (n : Fin 160000) :
    val_main_v24 (F := Ideal) x1 (ix1 n) = BitVec.ofNat 32 (n.val - first x1 (label x1 n.val)) := by
  have hle := ((eq_iff h.sorted n.isLt (label x1 n.val)).1 rfl).1
  rw [val_main_v24_apply, row_offset h, val_main_v16_apply]
  have hn := n.isLt
  show BitVec.ofNat 32 n.val - BitVec.ofNat 32 (first x1 (label x1 n.val)) = _
  apply BitVec.eq_of_toNat_eq
  have e : (first x1 (label x1 n.val)) ≤ n.val := hle
  generalize first x1 (label x1 n.val) = f at e
  rw [BitVec.toNat_sub, BitVec.toNat_ofNat, BitVec.toNat_ofNat, BitVec.toNat_ofNat]
  omega

/-- The placing scatter's first index word at row `n` is the row's label. -/
theorem place_index0 (h : Good x1) (n : Fin 160000) : val_main_v38 (F := Ideal) x1 (ix2 n (0 : Fin 2)) = BitVec.ofNat 32 (label x1 n.val) := by
  have hs := h.inside n
  have e : idx_main_v36 (ix2 n (0 : Fin 1)) = ix1 n := by funext a; match a with | ⟨0, _⟩ => rfl
  unfold val_main_v38
  rw [concatenate_pair_apply_left (s₁ := S160000x1) (s₂ := S160000x1) 1 _ _ _ (ix2 n (0 : Fin 2)) rfl (ix2 n (0 : Fin 1)) (fun a => match a with
      | ⟨0, _⟩ => rfl
      | ⟨1, _⟩ => rfl), val_main_v36_apply, e, val_main_v30_apply, val_main_v27_apply, val_main_v26_apply, val_main_c_8_apply,
      wrap_small (by rw [label_of_lt x1 _ n.isLt] at hs; exact lt_trans hs (by norm_num)), ← word_eq]

/-- The placing scatter's second index word at row `n` is the row's place. -/
theorem place_index1 (h : Good x1) (n : Fin 160000) :
    val_main_v38 (F := Ideal) x1 (ix2 n (1 : Fin 2)) = BitVec.ofNat 32 (n.val - first x1 (label x1 n.val)) := by
  have e : idx_main_v37 (ix2 n (0 : Fin 1)) = ix1 n := by funext a; match a with | ⟨0, _⟩ => rfl
  have hn := n.isLt
  unfold val_main_v38
  rw [concatenate_pair_apply_right (s₁ := S160000x1) (s₂ := S160000x1) 1 _ _ _ (ix2 n (1 : Fin 2)) rfl rfl (ix2 n (0 : Fin 1)) (fun a => match a with
      | ⟨0, _⟩ => fun _ => rfl
      | ⟨1, _⟩ => fun q => absurd rfl q) rfl, val_main_v37_apply, e, val_main_v35_apply, val_main_v32_apply, val_main_v31_apply, val_main_c_10_apply,
      place h, wrap_small (by rw [BitVec.toNat_ofNat]; omega)]

/-- The dense array: place `l` of patient `b` holds the patient's row `l`, or zeros past the patient's rows. -/
theorem dense (h : Good x1) (x0 : (⟨2, ![160000, 256]⟩ : Shape).Idx → EReal) (b : Fin 1024) (l : Fin 512) (d : Fin 256) :
    val_main_v39 (F := Ideal) x0 x1 (ix3 b l d)
      = if hl : l.val < rows x1 b.val then
          x0 (ix2 (⟨first x1 b.val + l.val, by
            have : first x1 b.val + rows x1 b.val ≤ 160000 := off_add_cnt_le (g := label x1) (N := 160000) b.val
            omega⟩ : Fin 160000) d)
        else 0 := by
  have lands : ∀ (n : Fin 160000) (e : Fin 256),
      scatter_S1024x512x256_S160000x2_S160000x256_1_01_01_1.resultIdx? (ix2 n e) (val_main_v38 (F := Ideal) x1) = some (ix3 b l d)
        ↔ label x1 n.val = b.val ∧ n.val - first x1 (label x1 n.val) = l.val ∧ e = d := fun n e => by
    have hs := h.inside n
    have hn := n.isLt
    rw [Scatters.place_lands, place_index0 h, place_index1 h, StableHlo.Predicate.toInt_ofNat_small _ (by omega), StableHlo.Predicate.toInt_ofNat_small _ (by omega)]
    simp only [Nat.cast_inj]
  unfold val_main_v39
  split
  · next hl =>
    have hend : first x1 b.val + rows x1 b.val ≤ 160000 := off_add_cnt_le (g := label x1) (N := 160000) b.val
    have hlt : first x1 b.val + l.val < 160000 := by omega
    have hlab : label x1 (first x1 b.val + l.val) = b.val := (eq_iff h.sorted hlt b.val).2 ⟨Nat.le_add_right _ _, Nat.add_lt_add_left hl _⟩
    refine scatter_set_hit _ _ _ _ _ _ (fun k hk => ?_) (ix2 (⟨first x1 b.val + l.val, hlt⟩ : Fin 160000) d) ?_
    · rw [eq_ix2 k] at hk ⊢
      obtain ⟨p, q, r⟩ := (lands (k 0) (k 1)).1 hk
      have hn : (k 0).val < 160000 := (k 0).isLt
      have hge := ((eq_iff h.sorted hn b.val).1 p).1
      rw [p] at q
      have e0 : (k 0 : Fin 160000) = ⟨first x1 b.val + l.val, hlt⟩ := Fin.ext (by
        show (k 0).val = first x1 b.val + l.val
        have hge' : first x1 b.val ≤ (k 0).val := hge
        omega)
      exact congrArg x0 (congrArg₂ ix2 e0 r)
    · refine (lands _ _).2 ⟨hlab, ?_, rfl⟩
      show first x1 b.val + l.val - first x1 (label x1 (first x1 b.val + l.val)) = l.val
      rw [hlab]; omega
  · next hl =>
    rw [scatter_set_miss, val_main_v25_apply, val_main_cst_7_apply]
    · exact Ideal.ofBits_zero_f32
    intro k hk
    rw [eq_ix2 k] at hk
    obtain ⟨p, q, _⟩ := (lands (k 0) (k 1)).1 hk
    have hn : (k 0).val < 160000 := (k 0).isLt
    have hr := (eq_iff h.sorted hn b.val).1 p
    rw [p] at q
    have h1 : first x1 b.val ≤ (k 0).val := hr.1
    have h2 : (k 0).val < first x1 b.val + rows x1 b.val := hr.2
    omega

end Cert.ReferenceIdeal.Dense
-- ==== Proof.Softmax.lean ====
module

public import Idealize.ShloMosaic.PureOps.Ideal
public import Idealize.ShloMosaic.PureOps.Ideal.Laws

@[expose] public section

/-!
# Softmax pooling as one quotient

Over the extended reals, a pooled sum of values weighted by the masked, shifted softmax of real scores is the quotient of the
sum of values times exponentials by the sum of exponentials. Masked scores are minus infinity; values may be infinite.
-/

noncomputable section

namespace Cert.Softmax

open Idealize.ShloMosaic

/-- A nonnegative real factor on the right goes through a finite sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type} [Fintype ι] (p : ι → Prop) [DecidablePred p] (σ : ι → ℝ)

/-- A masked score: the score where kept, minus infinity where not. -/
def masked (l : ι) : EReal := if p l then (σ l : EReal) else ⊥

/-- The exponential of a masked score shifted by a real: zero where masked. -/
theorem exp_shift (μ : ℝ) (l : ι) : Ideal.exp (masked p σ l - (μ : EReal)) = ((if p l then Real.exp (σ l - μ) else 0 : ℝ) : EReal) := by
  unfold masked
  split
  · rw [← EReal.coe_sub, Ideal.exp_coe]
  · rw [EReal.bot_sub, Ideal.exp_bot]; rfl

/-- The sum of the kept exponentials is a positive real as soon as one score is kept. -/
theorem sum_pos (l₀ : ι) (h : p l₀) (μ : ℝ) : 0 < ∑ l, (if p l then Real.exp (σ l - μ) else 0) := by
  refine Finset.sum_pos' (fun l _ => ?_) ⟨l₀, Finset.mem_univ _, by rw [if_pos h]; exact Real.exp_pos _⟩
  split
  · exact (Real.exp_pos _).le
  · exact le_refl _

/-- The kept exponentials, summed in the extended reals. -/
theorem sum_exp : (∑ l, if p l then Ideal.exp (σ l : EReal) else 0) = ((∑ l, (if p l then Real.exp (σ l - 0) else 0) : ℝ) : EReal) := by
  rw [coe_sum]
  refine Finset.sum_congr rfl fun l _ => ?_
  rw [sub_zero]
  split
  · rw [Ideal.exp_coe]
  · rfl

/-- The denominator is positive as soon as one score is kept. -/
theorem den_pos (l₀ : ι) (h : p l₀) : 0 < ∑ l, if p l then Ideal.exp (σ l : EReal) else 0 := by
  rw [sum_exp]
  exact_mod_cast sum_pos p σ l₀ h 0

/-- Softmax pooling is a quotient of two sums. -/
theorem pooled (y : ι → EReal) (μ : ℝ) (l₀ : ι) (h : p l₀) :
    ∑ l, y l * Ideal.div (Ideal.exp (masked p σ l - (μ : EReal))) (∑ k, Ideal.exp (masked p σ k - (μ : EReal)))
      = Ideal.div (∑ l, if p l then y l * Ideal.exp (σ l : EReal) else 0) (∑ l, if p l then Ideal.exp (σ l : EReal) else 0) := by
  have hz := sum_pos p σ l₀ h μ
  have he := sum_pos p σ l₀ h 0
  have hze : (∑ l, (if p l then Real.exp (σ l - μ) else 0)) = Real.exp (-μ) * ∑ l, (if p l then Real.exp (σ l - 0) else 0) := by
    rw [Finset.mul_sum]
    refine Finset.sum_congr rfl fun l _ => ?_
    split
    · rw [← Real.exp_add]; congr 1; ring
    · rw [mul_zero]
  rw [sum_exp, Ideal.div_coe he.ne', sum_mul_coe _ _ (one_div_nonneg.2 he.le)]
  simp only [exp_shift]
  rw [← coe_sum, hze]
  refine Finset.sum_congr rfl fun l _ => ?_
  rw [Ideal.div_coe (by positivity)]
  split
  · rw [Ideal.exp_coe, mul_assoc, ← EReal.coe_mul, ← EReal.coe_mul]
    congr 2
    rw [sub_eq_add_neg, Real.exp_add]
    field_simp
  · simp

/-- The largest masked score is a real number as soon as one score is kept. -/
theorem max_real (l₀ : ι) (h : p l₀) : ∃ μ : ℝ, Finset.univ.fold max (⊥ : EReal) (masked p σ) = (μ : EReal) := by
  refine ⟨_, (EReal.coe_toReal ?_ ?_).symm⟩
  · refine ne_of_lt ((Finset.fold_max_lt _).2 ⟨bot_lt_top, fun l _ => ?_⟩)
    unfold masked
    split
    · exact EReal.coe_lt_top _
    · exact bot_lt_top
  · refine ne_of_gt ((Finset.lt_fold_max _).2 (Or.inr ⟨l₀, Finset.mem_univ _, ?_⟩))
    unfold masked
    rw [if_pos h]
    exact EReal.bot_lt_coe _

end Cert.Softmax
-- ==== Proof.Pooling.lean ====
module

public import proofs.«01_k».proof.Proof.Dense
public import proofs.«01_k».proof.Proof.Spec
public import proofs.«01_k».proof.Proof.Softmax

@[expose] public section

/-!
# What the reference computes

The masked scores, their maximum, the softmax weights and the pooled sum, read at an index; then the whole result as the
quotient of two sums over rows.
-/

set_option maxRecDepth 16384

noncomputable section

namespace Cert.ReferenceIdeal.Pooling

open Cert.ReferenceIdeal Cert.ReferenceIdeal.Gen Cert.ReferenceIdeal.Read Idealize.ShloMosaic Idealize.ShloMosaic.ValueIdx
  Cert.Labels Cert.Segments Cert.ReferenceIdeal.Dense

variable {x1 : Words} (x0 : (⟨2, ![160000, 256]⟩ : Shape).Idx → EReal) (x2 : (⟨2, ![256, 128]⟩ : Shape).Idx → EReal)
  (x3 : (⟨1, ![128]⟩ : Shape).Idx → EReal) (x4 : (⟨2, ![128, 1]⟩ : Shape).Idx → EReal) (x5 : (⟨1, ![1]⟩ : Shape).Idx → EReal)
  (r0 : (⟨2, ![1, 1]⟩ : Shape).Idx → EReal)

/-- A hidden unit of the score at a place of the dense array, before its `tanh`. -/
theorem hidden_at (b : Fin 1024) (l : Fin 512) (h : Fin 128) :
    val_main_v49 (F := Ideal) x0 x1 x2 x3 (ix3 b l h)
      = (∑ k : Fin 256, val_main_v39 (F := Ideal) x0 x1 (ix3 b l k) * x2 (ix2 k h)) + x3 (ix1 h) := by
  have e3 : ∀ k : Fin 256, lidx_main_v46 (ix3 b l h) k = ix3 b l k := fun k => by
    funext a; match a with | ⟨0, _⟩ => rfl | ⟨1, _⟩ => rfl | ⟨2, _⟩ => rfl
  have e4 : ∀ k : Fin 256, ridx_main_v46 (ix3 b l h) k = ix2 k h := fun k => by
    funext a; match a with | ⟨0, _⟩ => rfl | ⟨1, _⟩ => rfl
  have e5 : idx_main_v47 (idx_main_v48 (ix3 b l h)) = ix1 h := by
    funext a; match a with | ⟨0, _⟩ => rfl
  rw [val_main_v49_apply, val_main_v46_apply, val_main_v48_apply, val_main_v47_apply, e5, Ideal.addf_def]
  refine congrArg (· + x3 (ix1 h)) (Finset.sum_congr rfl fun k _ => ?_)
  rw [e3, e4]

/-- The score at a place of the dense array, before it is clamped. -/
theorem raw_score_at (b : Fin 1024) (l : Fin 512) :
    val_main_v54 (F := Ideal) x0 x1 x2 x3 x4 x5 (ix3 b l (0 : Fin 1))
      = (∑ h : Fin 128, Ideal.tanh ((∑ k : Fin 256, val_main_v39 (F := Ideal) x0 x1 (ix3 b l k) * x2 (ix2 k h)) + x3 (ix1 h))
          * x4 (ix2 h (0 : Fin 1))) + x5 (ix1 (0 : Fin 1)) := by
  have e1 : ∀ h : Fin 128, lidx_main_v51 (ix3 b l (0 : Fin 1)) h = ix3 b l h := fun h => by
    funext a; match a with | ⟨0, _⟩ => rfl | ⟨1, _⟩ => rfl | ⟨2, _⟩ => rfl
  have e2 : ∀ h : Fin 128, ridx_main_v51 (ix3 b l (0 : Fin 1)) h = ix2 h (0 : Fin 1) := fun h => by
    funext a; match a with | ⟨0, _⟩ => rfl | ⟨1, _⟩ => rfl
  have e6 : idx_main_v52 (idx_main_v53 (ix3 b l (0 : Fin 1))) = ix1 (0 : Fin 1) := by
    funext a; match a with | ⟨0, _⟩ => rfl
  rw [val_main_v54_apply, val_main_v51_apply, val_main_v53_apply, val_main_v52_apply, e6, Ideal.addf_def]
  refine congrArg (· + x5 (ix1 (0 : Fin 1))) (Finset.sum_congr rfl fun h _ => ?_)
  rw [e1, e2, val_main_v50_apply, hidden_at, Ideal.hostUnary_tanh_def]

/-- The score at a place of the dense array is the score of the row that stands there. -/
theorem score_at (b : Fin 1024) (l : Fin 512) :
    val_main_v55 (F := Ideal) x0 x1 x2 x3 x4 x5 (ix3 b l (0 : Fin 1))
      = Spec.score (fun k => val_main_v39 (F := Ideal) x0 x1 (ix3 b l k)) x2 x3 x4 x5 := by
  rw [val_main_v55_apply, val_main_call2_v4_apply, val_main_call2_v3_apply, val_main_cst_13_apply, val_main_call2_v2_apply,
    val_main_call2_v1_apply, val_main_call2_v0_apply, val_main_cst_12_apply, raw_score_at, Ideal.ofBits_def, Ideal.ofBits_def,
    Ideal.maximumf_def, Ideal.minimumf_def]
  unfold Spec.score
  with_reducible rfl

/-- The mask keeps the places that hold one of the patient's rows. -/
theorem mask_at (h : Good x1) (b : Fin 1024) (l : Fin 512) :
    val_main_v56 (F := Ideal) x1 (ix3 b l (0 : Fin 1)) = BitVec.ofBool (decide (l.val < rows x1 b.val)) := by
  have e1 : idx_main_v56 (ix3 b l (0 : Fin 1)) = ix2 b l := by
    funext a; match a with | ⟨0, _⟩ => rfl | ⟨1, _⟩ => rfl
  have e2 : idx_main_v41 (idx_main_v43 (ix2 b l)) = ix1 l := by
    funext a; match a with | ⟨0, _⟩ => rfl
  have e3 : idx_main_v42 (idx_main_v44 (ix2 b l)) = ix1 b := by
    funext a; match a with | ⟨0, _⟩ => rfl
  have hr : rows x1 b.val ≤ 160000 := cnt_le _
  have hl := l.isLt
  rw [val_main_v56_apply, e1, val_main_v45_apply, val_main_v43_apply, val_main_v41_apply, e2, val_main_v40_apply,
    val_main_v44_apply, val_main_v42_apply, e3, counts h]
  exact WordCmp.cmpi_slt_ofNat (w := 32) (by show l.val < _; omega) (by omega)

/-- The row at place `l` of patient `b`, as a row number. -/
def rowAt (x1 : Words) (b l : ℕ) : ℕ := first x1 b + l

/-- Row `n`'s score as a function of any number. -/
def scoreN (n : ℕ) : EReal := if h : n < 160000 then Spec.rowScore x0 x2 x3 x4 x5 ⟨n, h⟩ else 0

/-- A score is real. -/
theorem scoreN_real (n : ℕ) : ((scoreN x0 x2 x3 x4 x5 n).toReal : EReal) = scoreN x0 x2 x3 x4 x5 n := by
  unfold scoreN
  split
  · obtain ⟨r, hr⟩ := Spec.score_real (fun k => x0 (ix2 ⟨n, by assumption⟩ k)) x2 x3 x4 x5
    unfold Spec.rowScore
    rw [hr, EReal.toReal_coe]
  · simp

/-- The masked scores: a row's score where the place holds one, minus infinity where not. -/
theorem masked_at (h : Good x1) (hr0 : r0 (ix2 (0 : Fin 1) (0 : Fin 1)) = ⊥) (b : Fin 1024) (l : Fin 512) :
    val_main_v57 (F := Ideal) x0 x1 x2 x3 x4 x5 r0 (ix3 b l (0 : Fin 1))
      = Softmax.masked (fun l : Fin 512 => l.val < rows x1 b.val)
          (fun l => (scoreN x0 x2 x3 x4 x5 (first x1 b.val + l.val)).toReal) l := by
  have e1 : idx_main_call3_v0 (ix3 b l (0 : Fin 1)) = ix2 (0 : Fin 1) (0 : Fin 1) := by
    funext a; match a with | ⟨0, _⟩ => rfl | ⟨1, _⟩ => rfl
  rw [val_main_v57_apply, mask_at h, score_at, val_main_call3_v0_apply, e1, hr0, WordCmp.select_decide]
  unfold Softmax.masked
  by_cases hl : l.val < rows x1 b.val
  · have hend : first x1 b.val + rows x1 b.val ≤ 160000 := off_add_cnt_le (g := label x1) (N := 160000) b.val
    rw [if_pos hl, if_pos hl, scoreN_real]
    unfold scoreN
    rw [dif_pos (by omega)]
    unfold Spec.rowScore
    refine congrArg (fun r => Spec.score r x2 x3 x4 x5) (funext fun k => ?_)
    rw [dense h, dif_pos hl]
  · rw [if_neg hl, if_neg hl]

/-- The maximum the reference shifts by is the largest masked score. -/
theorem max_at (b : Fin 1024) (s : Fin 512 → EReal)
    (hs : ∀ l : Fin 512, val_main_v57 (F := Ideal) x0 x1 x2 x3 x4 x5 r0 (ix3 b l (0 : Fin 1)) = s l) (l : Fin 512) :
    val_main_v62 (F := Ideal) x0 x1 x2 x3 x4 x5 r0 (ix3 b l (0 : Fin 1)) = Finset.univ.fold max (⊥ : EReal) s := by
  have e1 : idx_main_v61 (idx_main_v62 (ix3 b l (0 : Fin 1))) = ix2 b (0 : Fin 1) := by
    funext a; match a with | ⟨0, _⟩ => rfl | ⟨1, _⟩ => rfl
  have hred : S1024x512x1.Reduces [1] S1024x1 := by decide
  have e3 : ∀ k : Fin 512, hred.lift (ix2 b (0 : Fin 1)) k = ix3 b k (0 : Fin 1) := fun k => by
    funext a; match a with | ⟨0, _⟩ => rfl | ⟨1, _⟩ => rfl | ⟨2, _⟩ => rfl
  have e2 : (val_main_v57 (F := Ideal) x0 x1 x2 x3 x4 x5 r0 ∘ hred.lift (ix2 b (0 : Fin 1))) = s := by
    generalize val_main_v57 (F := Ideal) x0 x1 x2 x3 x4 x5 r0 = v at hs
    exact funext fun k : Fin 512 => (congrArg v (e3 k)).trans (hs k)
  rw [val_main_v62_apply, val_main_v61_apply, e1, val_main_v60_apply, val_main_v59_apply, val_main_cst_15_apply,
    Ideal.ofBits_def, Spec.minus_inf, Ideal.maximumf_def, max_eq_right bot_le]
  unfold val_main_v58
  rw [Host.reduce_eq_fold_single FloatOps.maximumf _ _ reducesTo_S1024x512x1_S1024x1_d1 hred h_S_, val_main_cst_14_apply,
    Ideal.ofBits_def, Spec.minus_inf, e2]
  exact Finset.fold_congr (op := max) (s := (Finset.univ : Finset (Fin 512))) fun _ _ => rfl

/-- The softmax weight's numerator at a place. -/
theorem weight_at (s : Fin 512 → EReal) (b : Fin 1024)
    (hs : ∀ l : Fin 512, val_main_v57 (F := Ideal) x0 x1 x2 x3 x4 x5 r0 (ix3 b l (0 : Fin 1)) = s l) (l : Fin 512) :
    val_main_v64 (F := Ideal) x0 x1 x2 x3 x4 x5 r0 (ix3 b l (0 : Fin 1))
      = Ideal.exp (s l - Finset.univ.fold max (⊥ : EReal) s) := by
  rw [val_main_v64_apply, val_main_v63_apply, max_at x0 x2 x3 x4 x5 r0 b s hs, hs, Ideal.subf_def, Ideal.hostUnary_exp_def]

/-- The softmax weight's denominator. -/
theorem total_at (s : Fin 512 → EReal) (b : Fin 1024)
    (hs : ∀ l : Fin 512, val_main_v57 (F := Ideal) x0 x1 x2 x3 x4 x5 r0 (ix3 b l (0 : Fin 1)) = s l) (l : Fin 512) :
    val_main_v67 (F := Ideal) x0 x1 x2 x3 x4 x5 r0 (ix3 b l (0 : Fin 1))
      = ∑ k : Fin 512, Ideal.exp (s k - Finset.univ.fold max (⊥ : EReal) s) := by
  have i3 : idx_main_v66 (idx_main_v67 (ix3 b l (0 : Fin 1))) = ix2 b (0 : Fin 1) := by
    funext a; match a with | ⟨0, _⟩ => rfl | ⟨1, _⟩ => rfl
  have i4 : ∀ k : Fin 512, idx_main_v65 (ix2 b (0 : Fin 1)) k = ix3 b k (0 : Fin 1) := fun k => by
    funext a; match a with | ⟨0, _⟩ => rfl | ⟨1, _⟩ => rfl | ⟨2, _⟩ => rfl
  rw [val_main_v67_apply, val_main_v66_apply, i3, val_main_v65_apply, val_main_cst_16_apply, Ideal.ofBits_def,
    Ideal.ofBits_zero_f32, zero_add]
  refine Finset.sum_congr rfl fun k _ => ?_
  rw [i4, weight_at x0 x2 x3 x4 x5 r0 s b hs]

/-- The pooled sum over a patient's places, before the masked scores are read. -/
theorem pooled_at (s : Fin 512 → EReal) (b : Fin 1024) (d : Fin 256)
    (hs : ∀ l : Fin 512, val_main_v57 (F := Ideal) x0 x1 x2 x3 x4 x5 r0 (ix3 b l (0 : Fin 1)) = s l) :
    val_main_v71 (F := Ideal) x0 x1 x2 x3 x4 x5 r0 (ix2 b d)
      = ∑ l : Fin 512, val_main_v39 (F := Ideal) x0 x1 (ix3 b l d)
          * Ideal.div (Ideal.exp (s l - Finset.univ.fold max (⊥ : EReal) s))
              (∑ k : Fin 512, Ideal.exp (s k - Finset.univ.fold max (⊥ : EReal) s)) := by
  have i1 : ∀ l : Fin 512, idx_main_v71 (ix2 b d) l = ix3 b l d := fun l => by
    funext a; match a with | ⟨0, _⟩ => rfl | ⟨1, _⟩ => rfl | ⟨2, _⟩ => rfl
  have i2 : ∀ l : Fin 512, idx_main_v69 (ix3 b l d) = ix3 b l (0 : Fin 1) := fun l => by
    funext a; match a with | ⟨0, _⟩ => rfl | ⟨1, _⟩ => rfl | ⟨2, _⟩ => rfl
  rw [val_main_v71_apply, val_main_cst_17_apply, Ideal.ofBits_def, Ideal.ofBits_zero_f32, zero_add]
  refine Finset.sum_congr rfl fun l _ => ?_
  rw [i1, val_main_v70_apply, val_main_v69_apply, i2, val_main_v68_apply, weight_at x0 x2 x3 x4 x5 r0 s b hs,
    total_at x0 x2 x3 x4 x5 r0 s b hs, Ideal.mulf_def, Ideal.hostDivf_def]

/-- The reference's result at patient `b`, column `d`. -/
theorem result_at (h : Good x1) (hr0 : r0 (ix2 (0 : Fin 1) (0 : Fin 1)) = ⊥) (b : Fin 1024) (d : Fin 256) :
    val_main_v71 (F := Ideal) x0 x1 x2 x3 x4 x5 r0 (ix2 b d) = Spec.pool (label x1) x0 x2 x3 x4 x5 b.val d := by
  rw [pooled_at x0 x2 x3 x4 x5 r0 _ b d (masked_at x0 x2 x3 x4 x5 r0 h hr0 b)]
  -- the two sums over rows, as sums over the patient's places
  have hshort : rows x1 b.val ≤ 512 := cnt_le_of_short h.sorted h.short b.val
  have hend : first x1 b.val + rows x1 b.val ≤ 160000 := off_add_cnt_le (g := label x1) (N := 160000) b.val
  have hden : Spec.den (label x1) x0 x2 x3 x4 x5 b.val
      = ∑ l : Fin 512, if l.val < rows x1 b.val then Ideal.exp (((scoreN x0 x2 x3 x4 x5 (first x1 b.val + l.val)).toReal : ℝ) : EReal) else 0 := by
    simp only [scoreN_real]
    rw [sum_run h.sorted 512 b.val hshort fun n => Ideal.exp (scoreN x0 x2 x3 x4 x5 n)]
    refine Finset.sum_congr rfl fun n _ => ?_
    unfold scoreN
    rw [dif_pos n.isLt]
  have hnum : Spec.num (label x1) x0 x2 x3 x4 x5 b.val d
      = ∑ l : Fin 512, if l.val < rows x1 b.val then val_main_v39 (F := Ideal) x0 x1 (ix3 b l d)
          * Ideal.exp (((scoreN x0 x2 x3 x4 x5 (first x1 b.val + l.val)).toReal : ℝ) : EReal) else 0 := by
    have e := sum_run h.sorted 512 b.val hshort fun n =>
      (if hn : n < 160000 then x0 (ix2 ⟨n, hn⟩ d) else 0) * Ideal.exp (scoreN x0 x2 x3 x4 x5 n)
    refine Eq.trans ?_ (e.symm.trans ?_)
    · refine Finset.sum_congr rfl fun n _ => ?_
      unfold scoreN
      rw [dif_pos n.isLt, dif_pos n.isLt]
    · refine Finset.sum_congr rfl fun l _ => ?_
      rw [scoreN_real]
      by_cases hl : l.val < rows x1 b.val
      · rw [if_pos hl, if_pos hl, dense h, dif_pos hl, dif_pos (show first x1 b.val + l.val < 160000 by omega)]
      · rw [if_neg hl, if_neg hl]
  unfold Spec.pool
  by_cases hc : 0 < rows x1 b.val
  · obtain ⟨μ, hμ⟩ := Softmax.max_real (fun l : Fin 512 => l.val < rows x1 b.val)
      (fun l => (scoreN x0 x2 x3 x4 x5 (first x1 b.val + l.val)).toReal) ⟨0, by omega⟩ hc
    rw [hμ, if_pos (by
      rw [hden]
      exact Softmax.den_pos (fun l : Fin 512 => l.val < rows x1 b.val) _ ⟨0, by omega⟩ hc), hden, hnum]
    exact Softmax.pooled (fun l : Fin 512 => l.val < rows x1 b.val) _ _ μ ⟨0, by omega⟩ hc
  · rw [if_neg (by
      rw [hden, Finset.sum_eq_zero fun l _ => if_neg (by omega)]
      exact lt_irrefl _)]
    refine Finset.sum_eq_zero fun l _ => ?_
    rw [dense h, dif_neg (by omega), zero_mul]

end Cert.ReferenceIdeal.Pooling
-- ==== Proof.Hidden.lean ====
module

public import proofs.«01_k».proof.Proof.Gen.ReferenceIdeal.Run
public import Idealize.ShloMosaic.Lib.Pipeline.Value

@[expose] public section

/-!
# The reference's named constant

The reference writes the value hidden places of the softmax take in a one-element kernel. Idealized, that value is minus
infinity.
-/

noncomputable section

namespace Cert.ReferenceIdeal.Hidden

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The kernel's one store writes minus infinity. -/
theorem stored (j : S1x1.Idx) : k0_pay1 (F := Ideal) j = (⊥ : EReal) := rfl

/-- So its result's buffer holds minus infinity after the body. -/
theorem body_out (x : Vec Ideal S1x1 .f32) : out0_1 (F := Ideal) x = fun _ => (⊥ : EReal) := by
  funext y
  unfold out0_1
  refine View.canon_apply_of_pieces (Val := Elt Ideal) (fun _ => (⊥ : EReal)) _ (fun p hp j => ?_) y (cover0_1 _ y)
  simp only [List.mem_cons, List.mem_nil_iff, or_false] at hp
  subst hp
  exact stored j

/-- What the one grid point writes back is its block of an array of minus infinities. -/
theorem flushed_eq (c : Dev nD) (t : Fin cfg0.N) :
    (dats m 0 c).flushed 1 t = (win0_1.blk t).view.read (Elt Ideal) (fun _ => (⊥ : EReal)) := by
  show (cfg0.win 1).cut (grid0.coords t) ((dats m 0 c).after 1 t) = _
  rw [after0_1, body_out]
  rfl

/-- The one grid point's block is the whole array. -/
theorem cover (i : S1x1.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S1x1.size a := by decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩

/-- The kernel's result: one element, minus infinity. -/
theorem value (c : Dev nD) : Value.reg_main_v1 (F := Ideal) m c = fun _ => (⊥ : EReal) :=
  (dats m 0 c).arrAt_eq_of_cover 1 (fun _ => (⊥ : EReal)) (fun t _ => flushed_eq m c t) cover

end Cert.ReferenceIdeal.Hidden
-- ==== Proof.Equation.lean ====
module

public import proofs.«01_k».proof.Proof.Fold
public import proofs.«01_k».proof.Proof.Pooling
public import proofs.«01_k».proof.Proof.Hidden

@[expose] public section

/-!
# The equation

The reference's run with its result read over its arguments, and the two results equal on arguments that agree.
-/

set_option maxRecDepth 16384

noncomputable section

namespace Cert.Equation

open Idealize.ShloMosaic.TcCoe Idealize.SL.Sem Idealize.ShloMosaic.ValueIdx Cert.Labels
open Idealize.ShloMosaic hiding ix1 ix2 ix3 eq_ix1 eq_ix2

/-- What the reference's result array holds: its operations composed, over its arguments, hidden places at minus infinity. -/
def refValue (m : (ℓ : Loc ReferenceIdeal.nD ReferenceIdeal.τ ReferenceIdeal.sig) → Buf (Elt Ideal) ℓ) (c : Dev ReferenceIdeal.nD) :
    (⟨2, ![1024, 256]⟩ : Shape).Idx → EReal :=
  ReferenceIdeal.Read.val_main_v71 (F := Ideal)
    (m ((c.tc : Thread ReferenceIdeal.nD ReferenceIdeal.τ).loc ReferenceIdeal.main_arg0))
    (m ((c.tc : Thread ReferenceIdeal.nD ReferenceIdeal.τ).loc ReferenceIdeal.main_arg1))
    (m ((c.tc : Thread ReferenceIdeal.nD ReferenceIdeal.τ).loc ReferenceIdeal.main_arg2))
    (m ((c.tc : Thread ReferenceIdeal.nD ReferenceIdeal.τ).loc ReferenceIdeal.main_arg3))
    (m ((c.tc : Thread ReferenceIdeal.nD ReferenceIdeal.τ).loc ReferenceIdeal.main_arg4))
    (m ((c.tc : Thread ReferenceIdeal.nD ReferenceIdeal.τ).loc ReferenceIdeal.main_arg5)) (fun _ => (⊥ : EReal))

open ReferenceIdeal ReferenceIdeal.Gen in
/-- The reference's run: its result is `refValue`, its arguments unchanged. -/
theorem refRun (m : (ℓ : Loc ReferenceIdeal.nD ReferenceIdeal.τ ReferenceIdeal.sig) → Buf (Elt Ideal) ℓ)
    (ρ : Dev ReferenceIdeal.nD → PrngReg) :
    θ_run defs (onTc (τ := τ) (main (F := Ideal))) ⟨m, fun _ => 0, ρ⟩ fun r => ∀ c : Dev nD,
      r.2.mem ((c.tc : Thread nD τ).loc main_v71) = refValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((ReferenceIdeal.Read.val_main_v71_eq (ReferenceIdeal.Value.exitV m c)).trans (by
    rw [ReferenceIdeal.Value.exit_main_arg0, ReferenceIdeal.Value.exit_main_arg1, ReferenceIdeal.Value.exit_main_arg2,
      ReferenceIdeal.Value.exit_main_arg3, ReferenceIdeal.Value.exit_main_arg4, ReferenceIdeal.Value.exit_main_arg5,
      ReferenceIdeal.Value.exit_main_v1, ReferenceIdeal.Hidden.value]
    unfold refValue
    rfl)), (h c).2⟩) (ReferenceIdeal.Value.run m ρ)

/-- On arguments that agree, with the labels sorted and each label's rows few enough, the two results are equal. -/
theorem values_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Good (KernelIdeal.Fold.X1 m c))
    (h0 : m' ((c.tc : Thread ReferenceIdeal.nD ReferenceIdeal.τ).loc ReferenceIdeal.main_arg0) = KernelIdeal.Fold.X0 m c)
    (h1 : m' ((c.tc : Thread ReferenceIdeal.nD ReferenceIdeal.τ).loc ReferenceIdeal.main_arg1) = KernelIdeal.Fold.X1 m c)
    (h2 : m' ((c.tc : Thread ReferenceIdeal.nD ReferenceIdeal.τ).loc ReferenceIdeal.main_arg2) = KernelIdeal.Fold.X2 m c)
    (h3 : m' ((c.tc : Thread ReferenceIdeal.nD ReferenceIdeal.τ).loc ReferenceIdeal.main_arg3) = KernelIdeal.Fold.X3 m c)
    (h4 : m' ((c.tc : Thread ReferenceIdeal.nD ReferenceIdeal.τ).loc ReferenceIdeal.main_arg4) = KernelIdeal.Fold.X4 m c)
    (h5 : m' ((c.tc : Thread ReferenceIdeal.nD ReferenceIdeal.τ).loc ReferenceIdeal.main_arg5) = KernelIdeal.Fold.X5 m c) :
    refValue m' c = KernelIdeal.Value.G6 (F := Ideal) m c := by
  unfold refValue
  rw [h0, h1, h2, h3, h4, h5]
  funext i
  rw [eq_ix2 i]
  exact (ReferenceIdeal.Pooling.result_at _ _ _ _ _ _ h rfl (i 0) (i 1)).trans (KernelIdeal.Fold.result_at m c (i 0) (i 1)).symm

end Cert.Equation
-- ==== Proof.lean ====
/-
  The certificate: the frames are the generated runs, the kernel's idealization rewrites nothing, the reference's names one
  constant, and the value claim is the equation of Proof/Equation.lean over the two runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read

public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_sorted_short_bags
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories agreeing on the arguments, kernel and reference end with equal results. -/
theorem equal_results : algebraic_KernelIdeal_ReferenceIdeal_pre_sorted_short_bags (hKernelIdeal := Cert.KernelIdeal.Gen.facts)
    (hReferenceIdeal := Cert.ReferenceIdeal.Gen.facts) (hPre_sorted_short_bags := Cert.Pre_sorted_short_bags.Gen.facts) :=
  fun m g m' g' hpre hag => ⟨fun c => Cert.KernelIdeal.Value.G6 (F := Ideal) m c, Cert.KernelIdeal.Value.run (F := Ideal) m g,
    (θ_run _ _ _).mono (fun _ h c => ⟨(h c).1.trans (Cert.Equation.values_eq m m' c
      (Cert.Labels.good_of_pre _ _ _ _ _ _ (hpre c)) (hag c).1 (hag c).2.1 (hag c).2.2.1 (hag c).2.2.2.1 (hag c).2.2.2.2.1
      (hag c).2.2.2.2.2), (h c).2⟩) (Cert.Equation.refRun m' g')⟩

/-- Everything that is claimed. -/
theorem claim : Cert.Claim := ⟨Cert.Kernel.Gen.facts, Cert.KernelIdeal.Gen.facts, Cert.ReferenceIdeal.Gen.facts, Cert.Reference.Gen.facts, Cert.Pre_sorted_short_bags.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  fun m g _ => Cert.Reference.Gen.frame m g,
  trivial,
  IdealRules.named_const.statement Cert.ReferenceIdeal.κ "mask" .f32 0xCE6E6B28#32 ⊥ rfl,
  equal_results⟩

end Cert.Proof

end
